-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v108)) (v2 : (c : Dev Cert.KernelIdeal.nD) → Buf (Elt Ideal) ((c.tc : Thread Cert.KernelIdeal.nD Cert.KernelIdeal.τ).loc Cert.KernelIdeal.main_v115)) (v3 : (c : Dev Cert.KernelIdeal.nD) → Buf (Elt Ideal) ((c.tc : Thread Cert.KernelIdeal.nD Cert.KernelIdeal.τ).loc Cert.KernelIdeal.main_v116)) (v4 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v108) = v1 c
          ∧ r.2.mem ((c.tc : Thread Cert.KernelIdeal.nD Cert.KernelIdeal.τ).loc Cert.KernelIdeal.main_v115) = v2 c
          ∧ r.2.mem ((c.tc : Thread Cert.KernelIdeal.nD Cert.KernelIdeal.τ).loc Cert.KernelIdeal.main_v116) = v3 c
          ∧ r.2.mem ((c.tc : Thread Cert.KernelIdeal.nD Cert.KernelIdeal.τ).loc Cert.KernelIdeal.main_cst) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v241) = v2 c
          ∧ r.2.mem ((c.tc : Thread Cert.ReferenceIdeal.nD Cert.ReferenceIdeal.τ).loc Cert.ReferenceIdeal.main_v242) = v3 c
          ∧ r.2.mem ((c.tc : Thread Cert.ReferenceIdeal.nD Cert.ReferenceIdeal.τ).loc Cert.ReferenceIdeal.main_cst_34) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x768 : Shape := ⟨3, ![4, 2048, 768]⟩
abbrev S2048x64 : Shape := ⟨2, ![2048, 64]⟩
abbrev S2x768 : Shape := ⟨2, ![2, 768]⟩
abbrev S2x768x768 : Shape := ⟨3, ![2, 768, 768]⟩
abbrev S2x768x2048 : Shape := ⟨3, ![2, 768, 2048]⟩
abbrev S2x2048x768 : Shape := ⟨3, ![2, 2048, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2x768 : S_.BroadcastsInDim S2x768 (![] : Fin 0 → Fin S2x768.rank)
  reducesTo_S2x768_S_d0_1 : S2x768.ReducesTo [0, 1] S_
  bcast_S_S2x768x768 : S_.BroadcastsInDim S2x768x768 (![] : Fin 0 → Fin S2x768x768.rank)
  reducesTo_S2x768x768_S_d0_1_2 : S2x768x768.ReducesTo [0, 1, 2] S_
  bcast_S_S2x768x2048 : S_.BroadcastsInDim S2x768x2048 (![] : Fin 0 → Fin S2x768x2048.rank)
  reducesTo_S2x768x2048_S_d0_1_2 : S2x768x2048.ReducesTo [0, 1, 2] S_
  bcast_S_S2x2048x768 : S_.BroadcastsInDim S2x2048x768 (![] : Fin 0 → Fin S2x2048x768.rank)
  reducesTo_S2x2048x768_S_d0_1_2 : S2x2048x768.ReducesTo [0, 1, 2] S_

variable [Facts]

def fn_part3 {F : FTy → Type} [FloatOps F] (main_arg11 : FVec F S2x768x2048 .f32) (main_v48 : IVec S_ 1) (main_v49 : FVec F S2x2048x768 .f32) (main_v50 : FVec F S2x2048x768 .f32) : IVec S_ 1 :=
  let main_v51 : IVec S2x2048x768 1 := cmpf .olt main_v49 main_v50
  let main_c_19 : IVec S_ 1 := constantI S_ 1 1#1
  let main_v52 : IVec S_ 1 := (fun x v => Host.reduce IntOp.andi x v reducesTo_S2x2048x768_S_d0_1_2 h_S_) main_v51 main_c_19
  let main_v53 : IVec S_ 1 := andi main_v48 main_v52
  let main_v54 : FVec F S2x768x2048 .f32 := Host.absf main_arg11
  let main_cst_20 : FVec F S_ .f32 := constant S_ .f32 0x7F800000#32
  let main_v55 : FVec F S2x768x2048 .f32 := broadcastInDim S2x768x2048 ![] bcast_S_S2x768x2048 main_cst_20
  let main_v56 : IVec S2x768x2048 1 := cmpf .olt main_v54 main_v55
  let main_c_21 : IVec S_ 1 := constantI S_ 1 1#1
  let main_v57 : IVec S_ 1 := (fun x v => Host.reduce IntOp.andi x v reducesTo_S2x768x2048_S_d0_1_2 h_S_) main_v56 main_c_21
  let main_v58 : IVec S_ 1 := andi main_v53 main_v57
  main_v58

def fn_part2 {F : FTy → Type} [FloatOps F] (main_arg7 : FVec F S2x768x768 .f32) (main_arg8 : FVec F S2x768 .f32) (main_arg9 : FVec F S2x768x2048 .f32) (main_arg10 : FVec F S2x2048x768 .f32) (main_arg11 : FVec F S2x768x2048 .f32) (main_v33 : IVec S_ 1) : IVec S_ 1 :=
  let main_v34 : FVec F S2x768x768 .f32 := Host.absf main_arg7
  let main_cst_12 : FVec F S_ .f32 := constant S_ .f32 0x7F800000#32
  let main_v35 : FVec F S2x768x768 .f32 := broadcastInDim S2x768x768 ![] bcast_S_S2x768x768 main_cst_12
  let main_v36 : IVec S2x768x768 1 := cmpf .olt main_v34 main_v35
  let main_c_13 : IVec S_ 1 := constantI S_ 1 1#1
  let main_v37 : IVec S_ 1 := (fun x v => Host.reduce IntOp.andi x v reducesTo_S2x768x768_S_d0_1_2 h_S_) main_v36 main_c_13
  let main_v38 : IVec S_ 1 := andi main_v33 main_v37
  let main_v39 : FVec F S2x768 .f32 := Host.absf main_arg8
  let main_cst_14 : FVec F S_ .f32 := constant S_ .f32 0x7F800000#32
  let main_v40 : FVec F S2x768 .f32 := broadcastInDim S2x768 ![] bcast_S_S2x768 main_cst_14
  let main_v41 : IVec S2x768 1 := cmpf .olt main_v39 main_v40
  let main_c_15 : IVec S_ 1 := constantI S_ 1 1#1
  let main_v42 : IVec S_ 1 := (fun x v => Host.reduce IntOp.andi x v reducesTo_S2x768_S_d0_1 h_S_) main_v41 main_c_15
  let main_v43 : IVec S_ 1 := andi main_v38 main_v42
  let main_v44 : FVec F S2x768x2048 .f32 := Host.absf main_arg9
  let main_cst_16 : FVec F S_ .f32 := constant S_ .f32 0x7F800000#32
  let main_v45 : FVec F S2x768x2048 .f32 := broadcastInDim S2x768x2048 ![] bcast_S_S2x768x2048 main_cst_16
  let main_v46 : IVec S2x768x2048 1 := cmpf .olt main_v44 main_v45
  let main_c_17 : IVec S_ 1 := constantI S_ 1 1#1
  let main_v47 : IVec S_ 1 := (fun x v => Host.reduce IntOp.andi x v reducesTo_S2x768x2048_S_d0_1_2 h_S_) main_v46 main_c_17
  let main_v48 : IVec S_ 1 := andi main_v43 main_v47
  let main_v49 : FVec F S2x2048x768 .f32 := Host.absf main_arg10
  let main_cst_18 : FVec F S_ .f32 := constant S_ .f32 0x7F800000#32
  let main_v50 : FVec F S2x2048x768 .f32 := broadcastInDim S2x2048x768 ![] bcast_S_S2x2048x768 main_cst_18
  fn_part3 (F := F) main_arg11 main_v48 main_v49 main_v50

def fn_part1 {F : FTy → Type} [FloatOps F] (main_arg4 : FVec F S2x768x768 .f32) (main_arg5 : FVec F S2x768x768 .f32) (main_arg6 : FVec F S2x768x768 .f32) (main_arg7 : FVec F S2x768x768 .f32) (main_arg8 : FVec F S2x768 .f32) (main_arg9 : FVec F S2x768x2048 .f32) (main_arg10 : FVec F S2x2048x768 .f32) (main_arg11 : FVec F S2x768x2048 .f32) (main_v13 : IVec S_ 1) (main_v16 : IVec S2x768 1) : IVec S_ 1 :=
  let main_c_5 : IVec S_ 1 := constantI S_ 1 1#1
  let main_v17 : IVec S_ 1 := (fun x v => Host.reduce IntOp.andi x v reducesTo_S2x768_S_d0_1 h_S_) main_v16 main_c_5
  let main_v18 : IVec S_ 1 := andi main_v13 main_v17
  let main_v19 : FVec F S2x768x768 .f32 := Host.absf main_arg4
  let main_cst_6 : FVec F S_ .f32 := constant S_ .f32 0x7F800000#32
  let main_v20 : FVec F S2x768x768 .f32 := broadcastInDim S2x768x768 ![] bcast_S_S2x768x768 main_cst_6
  let main_v21 : IVec S2x768x768 1 := cmpf .olt main_v19 main_v20
  let main_c_7 : IVec S_ 1 := constantI S_ 1 1#1
  let main_v22 : IVec S_ 1 := (fun x v => Host.reduce IntOp.andi x v reducesTo_S2x768x768_S_d0_1_2 h_S_) main_v21 main_c_7
  let main_v23 : IVec S_ 1 := andi main_v18 main_v22
  let main_v24 : FVec F S2x768x768 .f32 := Host.absf main_arg5
  let main_cst_8 : FVec F S_ .f32 := constant S_ .f32 0x7F800000#32
  let main_v25 : FVec F S2x768x768 .f32 := broadcastInDim S2x768x768 ![] bcast_S_S2x768x768 main_cst_8
  let main_v26 : IVec S2x768x768 1 := cmpf .olt main_v24 main_v25
  let main_c_9 : IVec S_ 1 := constantI S_ 1 1#1
  let main_v27 : IVec S_ 1 := (fun x v => Host.reduce IntOp.andi x v reducesTo_S2x768x768_S_d0_1_2 h_S_) main_v26 main_c_9
  let main_v28 : IVec S_ 1 := andi main_v23 main_v27
  let main_v29 : FVec F S2x768x768 .f32 := Host.absf main_arg6
  let main_cst_10 : FVec F S_ .f32 := constant S_ .f32 0x7F800000#32
  let main_v30 : FVec F S2x768x768 .f32 := broadcastInDim S2x768x768 ![] bcast_S_S2x768x768 main_cst_10
  let main_v31 : IVec S2x768x768 1 := cmpf .olt main_v29 main_v30
  let main_c_11 : IVec S_ 1 := constantI S_ 1 1#1
  let main_v32 : IVec S_ 1 := (fun x v => Host.reduce IntOp.andi x v reducesTo_S2x768x768_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x2048x768 .f32) (main_arg1 : FVec F S2048x64 .f32) (main_arg2 : FVec F S2048x64 .f32) (main_arg3 : FVec F S2x768 .f32) (main_arg4 : FVec F S2x768x768 .f32) (main_arg5 : FVec F S2x768x768 .f32) (main_arg6 : FVec F S2x768x768 .f32) (main_arg7 : FVec F S2x768x768 .f32) (main_arg8 : FVec F S2x768 .f32) (main_arg9 : FVec F S2x768x2048 .f32) (main_arg10 : FVec F S2x2048x768 .f32) (main_arg11 : FVec F S2x768x2048 .f32) (main_arg12 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2x768 .f32 := Host.absf main_arg3
  let main_cst_4 : FVec F S_ .f32 := constant S_ .f32 0x7F800000#32
  let main_v15 : FVec F S2x768 .f32 := broadcastInDim S2x768 ![] bcast_S_S2x768 main_cst_4
  let main_v16 : IVec S2x768 1 := cmpf .olt main_v14 main_v15
  fn_part1 (F := F) main_arg4 main_arg5 main_arg6 main_arg7 main_arg8 main_arg9 main_arg10 main_arg11 main_v13 main_v16
-- ==== Kernel.lean ====
abbrev S4x2048x768 : Shape := ⟨3, ![4, 2048, 768]⟩
abbrev S2048x64 : Shape := ⟨2, ![2048, 64]⟩
abbrev S2x768 : Shape := ⟨2, ![2, 768]⟩
abbrev S2x768x768 : Shape := ⟨3, ![2, 768, 768]⟩
abbrev S2x768x2048 : Shape := ⟨3, ![2, 768, 2048]⟩
abbrev S2x2048x768 : Shape := ⟨3, ![2, 2048, 768]⟩
abbrev S768 : Shape := ⟨1, ![768]⟩
abbrev S1x2048x1x64 : Shape := ⟨4, ![1, 2048, 1, 64]⟩
abbrev S1x2048x12x64 : Shape := ⟨4, ![1, 2048, 12, 64]⟩
abbrev S2048x768 : Shape := ⟨2, ![2048, 768]⟩
abbrev S8192x768 : Shape := ⟨2, ![8192, 768]⟩
abbrev S1x768x768 : Shape := ⟨3, ![1, 768, 768]⟩
abbrev S768x768 : Shape := ⟨2, ![768, 768]⟩
abbrev S768x12x64 : Shape := ⟨3, ![768, 12, 64]⟩
abbrev S768x12x32 : Shape := ⟨3, ![768, 12, 32]⟩
abbrev S768x3840 : Shape := ⟨2, ![768, 3840]⟩
abbrev S1x768 : Shape := ⟨2, ![1, 768]⟩
abbrev S1024x768 : Shape := ⟨2, ![1024, 768]⟩
abbrev S1024 : Shape := ⟨1, ![1024]⟩
abbrev S1024x1 : Shape := ⟨2, ![1024, 1]⟩
abbrev S1024x3840 : Shape := ⟨2, ![1024, 3840]⟩
abbrev S4x512x768 : Shape := ⟨3, ![4, 512, 768]⟩
abbrev S1x512x768 : Shape := ⟨3, ![1, 512, 768]⟩
abbrev S512x512 : Shape := ⟨2, ![512, 512]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x1024x768 : Shape := ⟨3, ![1, 1024, 768]⟩
abbrev S1x1536x768 : Shape := ⟨3, ![1, 1536, 768]⟩
abbrev S1x1024x64 : Shape := ⟨3, ![1, 1024, 64]⟩
abbrev S1024x64 : Shape := ⟨2, ![1024, 64]⟩
abbrev S512x1024 : Shape := ⟨2, ![512, 1024]⟩
abbrev S1x2048x768 : Shape := ⟨3, ![1, 2048, 768]⟩
abbrev S1x1536x64 : Shape := ⟨3, ![1, 1536, 64]⟩
abbrev S1536x64 : Shape := ⟨2, ![1536, 64]⟩
abbrev S512x1536 : Shape := ⟨2, ![512, 1536]⟩
abbrev S1x768x2048 : Shape := ⟨3, ![1, 768, 2048]⟩
abbrev S768x2048 : Shape := ⟨2, ![768, 2048]⟩
abbrev S768x4096 : Shape := ⟨2, ![768, 4096]⟩
abbrev S1024x4096 : Shape := ⟨2, ![1024, 4096]⟩
abbrev S1024x2048 : Shape := ⟨2, ![1024, 2048]⟩
abbrev S512x768 : Shape := ⟨2, ![512, 768]⟩
abbrev S64x768 : Shape := ⟨2, ![64, 768]⟩
abbrev S4x128x768 : Shape := ⟨3, ![4, 128, 768]⟩
abbrev S128 : Shape := ⟨1, ![128]⟩
abbrev S_ : Shape := ⟨0, ![]⟩
abbrev S1x128 : Shape := ⟨2, ![1, 128]⟩
abbrev S4x128 : Shape := ⟨2, ![4, 128]⟩
abbrev S4 : Shape := ⟨1, ![4]⟩

abbrev nBuf : Space → Nat
  | .hbm => 139
  | .vmem => 119
  | .smem => 0
  | _ => 0

abbrev hbmTy0_0 (i : Nat) : BufTy := match i % 128 with
  | 0 => ⟨S4x2048x768, .f32⟩
  | 1 => ⟨S2048x64, .f32⟩
  | 2 => ⟨S2048x64, .f32⟩
  | 3 => ⟨S2x768, .f32⟩
  | 4 => ⟨S2x768x768, .f32⟩
  | 5 => ⟨S2x768x768, .f32⟩
  | 6 => ⟨S2x768x768, .f32⟩
  | 7 => ⟨S2x768x768, .f32⟩
  | 8 => ⟨S2x768, .f32⟩
  | 9 => ⟨S2x768x2048, .f32⟩
  | 10 => ⟨S2x2048x768, .f32⟩
  | 11 => ⟨S2x768x2048, .f32⟩
  | 12 => ⟨S768, .f32⟩
  | 13 => ⟨S1x2048x1x64, .f32⟩
  | 14 => ⟨S1x2048x12x64, .f32⟩
  | 15 => ⟨S2048x768, .f32⟩
  | 16 => ⟨S1x2048x1x64, .f32⟩
  | 17 => ⟨S1x2048x12x64, .f32⟩
  | 18 => ⟨S2048x768, .f32⟩
  | 19 => ⟨S8192x768, .f32⟩
  | 20 => ⟨S1x768x768, .f32⟩
  | 21 => ⟨S768x768, .f32⟩
  | 22 => ⟨S1x768x768, .f32⟩
  | 23 => ⟨S768x768, .f32⟩
  | 24 => ⟨S768x12x64, .f32⟩
  | 25 => ⟨S768x12x32, .f32⟩
  | 26 => ⟨S768x12x32, .f32⟩
  | 27 => ⟨S768x12x32, .f32⟩
  | 28 => ⟨S768x12x64, .f32⟩
  | 29 => ⟨S768x768, .f32⟩
  | 30 => ⟨S768x12x64, .f32⟩
  | 31 => ⟨S768x12x32, .f32⟩
  | 32 => ⟨S768x12x32, .f32⟩
  | 33 => ⟨S768x12x32, .f32⟩
  | 34 => ⟨S768x12x64, .f32⟩
  | 35 => ⟨S768x768, .f32⟩
  | 36 => ⟨S1x768x768, .f32⟩
  | 37 => ⟨S768x768, .f32⟩
  | 38 => ⟨S768x3840, .f32⟩
  | 39 => ⟨S768x3840, .bf16⟩
  | 40 => ⟨S1x768, .f32⟩
  | 41 => ⟨S768, .f32⟩
  | 42 => ⟨S1x768, .f32⟩
  | 43 => ⟨S8192x768, .bf16⟩
  | 44 => ⟨S8192x768, .bf16⟩
  | 45 => ⟨S8192x768, .bf16⟩
  | 46 => ⟨S4x2048x768, .bf16⟩
  | 47 => ⟨S4x2048x768, .bf16⟩
  | 48 => ⟨S4x2048x768, .bf16⟩
  | 49 => ⟨S4x512x768, .bf16⟩
  | 50 => ⟨S4x512x768, .bf16⟩
  | 51 => ⟨S4x512x768, .bf16⟩
  | 52 => ⟨S4x512x768, .bf16⟩
  | 53 => ⟨S4x2048x768, .bf16⟩
  | 54 => ⟨S1x768x2048, .f32⟩
  | 55 => ⟨S768x2048, .f32⟩
  | 56 => ⟨S1x768x2048, .f32⟩
  | 57 => ⟨S768x2048, .f32⟩
  | 58 => ⟨S768x4096, .f32⟩
  | 59 => ⟨S768x4096, .bf16⟩
  | 60 => ⟨S8192x768, .bf16⟩
  | 61 => ⟨S1x768x768, .f32⟩
  | 62 => ⟨S768x768, .f32⟩
  | 63 => ⟨S768x768, .bf16⟩
  | 64 => ⟨S1x768, .f32⟩
  | 65 => ⟨S768, .f32⟩
  | 66 => ⟨S1x768, .f32⟩
  | 67 => ⟨S1x2048x768, .f32⟩
  | 68 => ⟨S2048x768, .f32⟩
  | 69 => ⟨S2048x768, .bf16⟩
  | 70 => ⟨S8192x768, .f32⟩
  | 71 => ⟨S1x768x768, .f32⟩
  | 72 => ⟨S768x768, .f32⟩
  | 73 => ⟨S1x768x768, .f32⟩
  | 74 => ⟨S768x768, .f32⟩
  | 75 => ⟨S768x12x64, .f32⟩
  | 76 => ⟨S768x12x32, .f32⟩
  | 77 => ⟨S768x12x32, .f32⟩
  | 78 => ⟨S768x12x32, .f32⟩
  | 79 => ⟨S768x12x64, .f32⟩
  | 80 => ⟨S768x768, .f32⟩
  | 81 => ⟨S768x12x64, .f32⟩
  | 82 => ⟨S768x12x32, .f32⟩
  | 83 => ⟨S768x12x32, .f32⟩
  | 84 => ⟨S768x12x32, .f32⟩
  | 85 => ⟨S768x12x64, .f32⟩
  | 86 => ⟨S768x768, .f32⟩
  | 87 => ⟨S1x768x768, .f32⟩
  | 88 => ⟨S768x768, .f32⟩
  | 89 => ⟨S768x3840, .f32⟩
  | 90 => ⟨S768x3840, .bf16⟩
  | 91 => ⟨S1x768, .f32⟩
  | 92 => ⟨S768, .f32⟩
  | 93 => ⟨S1x768, .f32⟩
  | 94 => ⟨S8192x768, .bf16⟩
  | 95 => ⟨S8192x768, .bf16⟩
  | 96 => ⟨S8192x768, .bf16⟩
  | 97 => ⟨S4x2048x768, .bf16⟩
  | 98 => ⟨S4x2048x768, .bf16⟩
  | 99 => ⟨S4x2048x768, .bf16⟩
  | 100 => ⟨S4x512x768, .bf16⟩
  | 101 => ⟨S4x512x768, .bf16⟩
  | 102 => ⟨S4x512x768, .bf16⟩
  | 103 => ⟨S4x512x768, .bf16⟩
  | 104 => ⟨S4x2048x768, .bf16⟩
  | 105 => ⟨S1x768x2048, .f32⟩
  | 106 => ⟨S768x2048, .f32⟩
  | 107 => ⟨S1x768x2048, .f32⟩
  | 108 => ⟨S768x2048, .f32⟩
  | 109 => ⟨S768x4096, .f32⟩
  | 110 => ⟨S768x4096, .bf16⟩
  | 111 => ⟨S8192x768, .bf16⟩
  | 112 => ⟨S1x768x768, .f32⟩
  | 113 => ⟨S768x768, .f32⟩
  | 114 => ⟨S768x768, .bf16⟩
  | 115 => ⟨S1x768, .f32⟩
  | 116 => ⟨S768, .f32⟩
  | 117 => ⟨S1x768, .f32⟩
  | 118 => ⟨S1x2048x768, .f32⟩
  | 119 => ⟨S2048x768, .f32⟩
  | 120 => ⟨S2048x768, .bf16⟩
  | 121 => ⟨S8192x768, .f32⟩
  | 122 => ⟨S1x768, .f32⟩
  | 123 => ⟨S8192x768, .f32⟩
  | 124 => ⟨S512x768, .f32⟩
  | 125 => ⟨S4x2048x768, .f32⟩
  | 126 => ⟨S4x128x768, .f32⟩
  | 127 => ⟨S128, .i32⟩
  | _ => ⟨S4x2048x768, .f32⟩

abbrev hbmTy0_1 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S1x128, .i32⟩
  | 7 => ⟨S4x128, .i32⟩
  | 8 => ⟨S_, .i32⟩
  | 9 => ⟨S4, .i32⟩
  | 10 => ⟨S_, .f32⟩
  | _ => ⟨S4x2048x768, .f32⟩

abbrev hbmTy (i : Nat) : BufTy := match i / 128 with
  | 0 => hbmTy0_0 i
  | 1 => hbmTy0_1 i
  | _ => ⟨S4x2048x768, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S768x3840, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x768, .bf16⟩
  | .local _ .vmem, ⟨19, _⟩ => ⟨S1x512x768, .bf16⟩
  | .local _ .vmem, ⟨20, _⟩ => ⟨S1x512x768, .bf16⟩
  | .local _ .vmem, ⟨21, _⟩ => ⟨S1x512x768, .bf16⟩
  | .local _ .vmem, ⟨22, _⟩ => ⟨S1x512x768, .bf16⟩
  | .local _ .vmem, ⟨23, _⟩ => ⟨S1x512x768, .bf16⟩
  | .local _ .vmem, ⟨24, _⟩ => ⟨S1x1024x768, .bf16⟩
  | .local _ .vmem, ⟨25, _⟩ => ⟨S1x1024x768, .bf16⟩
  | .local _ .vmem, ⟨26, _⟩ => ⟨S1x1024x768, .bf16⟩
  | .local _ .vmem, ⟨27, _⟩ => ⟨S1x1024x768, .bf16⟩
  | .local _ .vmem, ⟨28, _⟩ => ⟨S1x512x768, .bf16⟩
  | .local _ .vmem, ⟨29, _⟩ => ⟨S1x512x768, .bf16⟩
  | .local _ .vmem, ⟨30, _⟩ => ⟨S1x512x768, .bf16⟩
  | .local _ .vmem, ⟨31, _⟩ => ⟨S1x512x768, .bf16⟩
  | .local _ .vmem, ⟨32, _⟩ => ⟨S1x1536x768, .bf16⟩
  | .local _ .vmem, ⟨33, _⟩ => ⟨S1x1536x768, .bf16⟩
  | .local _ .vmem, ⟨34, _⟩ => ⟨S1x1536x768, .bf16⟩
  | .local _ .vmem, ⟨35, _⟩ => ⟨S1x1536x768, .bf16⟩
  | .local _ .vmem, ⟨36, _⟩ => ⟨S1x512x768, .bf16⟩
  | .local _ .vmem, ⟨37, _⟩ => ⟨S1x512x768, .bf16⟩
  | .local _ .vmem, ⟨38, _⟩ => ⟨S1x512x768, .bf16⟩
  | .local _ .vmem, ⟨39, _⟩ => ⟨S1x512x768, .bf16⟩
  | .local _ .vmem, ⟨40, _⟩ => ⟨S1x2048x768, .bf16⟩
  | .local _ .vmem, ⟨41, _⟩ => ⟨S1x2048x768, .bf16⟩
  | .local _ .vmem, ⟨42, _⟩ => ⟨S1x2048x768, .bf16⟩
  | .local _ .vmem, ⟨43, _⟩ => ⟨S1x2048x768, .bf16⟩
  | .local _ .vmem, ⟨44, _⟩ => ⟨S1x512x768, .bf16⟩
  | .local _ .vmem, ⟨45, _⟩ => ⟨S1x512x768, .bf16⟩
  | .local _ .vmem, ⟨46, _⟩ => ⟨S1024x768, .f32⟩
  | .local _ .vmem, ⟨47, _⟩ => ⟨S1024x768, .f32⟩
  | .local _ .vmem, ⟨48, _⟩ => ⟨S1024x768, .bf16⟩
  | .local _ .vmem, ⟨49, _⟩ => ⟨S1024x768, .bf16⟩
  | .local _ .vmem, ⟨50, _⟩ => ⟨S768x768, .bf16⟩
  | .local _ .vmem, ⟨51, _⟩ => ⟨S1x768, .f32⟩
  | .local _ .vmem, ⟨52, _⟩ => ⟨S768x4096, .bf16⟩
  | .local _ .vmem, ⟨53, _⟩ => ⟨S2048x768, .bf16⟩
  | .local _ .vmem, ⟨54, _⟩ => ⟨S1024x768, .f32⟩
  | .local _ .vmem, ⟨55, _⟩ => ⟨S1024x768, .f32⟩
  | .local _ .vmem, ⟨56, _⟩ => ⟨S1024x768, .f32⟩
  | .local _ .vmem, ⟨57, _⟩ => ⟨S1024x768, .f32⟩
  | .local _ .vmem, ⟨58, _⟩ => ⟨S1x768, .f32⟩
  | .local _ .vmem, ⟨59, _⟩ => ⟨S768x3840, .bf16⟩
  | .local _ .vmem, ⟨60, _⟩ => ⟨S1024x768, .f32⟩
  | .local _ .vmem, ⟨61, _⟩ => ⟨S1024x768, .f32⟩
  | .local _ .vmem, ⟨62, _⟩ => ⟨S1024x768, .f32⟩
  | .local _ .vmem, ⟨63, _⟩ => ⟨S1024x768, .f32⟩
  | .local _ .vmem, ⟨64, _⟩ => ⟨S1024x768, .bf16⟩
  | .local _ .vmem, ⟨65, _⟩ => ⟨S1024x768, .bf16⟩
  | .local _ .vmem, ⟨66, _⟩ => ⟨S1024x768, .bf16⟩
  | .local _ .vmem, ⟨67, _⟩ => ⟨S1024x768, .bf16⟩
  | .local _ .vmem, ⟨68, _⟩ => ⟨S1024x768, .bf16⟩
  | .local _ .vmem, ⟨69, _⟩ => ⟨S1024x768, .bf16⟩
  | .local _ .vmem, ⟨70, _⟩ => ⟨S1x512x768, .bf16⟩
  | .local _ .vmem, ⟨71, _⟩ => ⟨S1x512x768, .bf16⟩
  | .local _ .vmem, ⟨72, _⟩ => ⟨S1x512x768, .bf16⟩
  | .local _ .vmem, ⟨73, _⟩ => ⟨S1x512x768, .bf16⟩
  | .local _ .vmem, ⟨74, _⟩ => ⟨S1x512x768, .bf16⟩
  | .local _ .vmem, ⟨75, _⟩ => ⟨S1x512x768, .bf16⟩
  | .local _ .vmem, ⟨76, _⟩ => ⟨S1x512x768, .bf16⟩
  | .local _ .vmem, ⟨77, _⟩ => ⟨S1x512x768, .bf16⟩
  | .local _ .vmem, ⟨78, _⟩ => ⟨S1x512x768, .bf16⟩
  | .local _ .vmem, ⟨79, _⟩ => ⟨S1x512x768, .bf16⟩
  | .local _ .vmem, ⟨80, _⟩ => ⟨S1x1024x768, .bf16⟩
  | .local _ .vmem, ⟨81, _⟩ => ⟨S1x1024x768, .bf16⟩
  | .local _ .vmem, ⟨82, _⟩ => ⟨S1x1024x768, .bf16⟩
  | .local _ .vmem, ⟨83, _⟩ => ⟨S1x1024x768, .bf16⟩
  | .local _ .vmem, ⟨84, _⟩ => ⟨S1x512x768, .bf16⟩
  | .local _ .vmem, ⟨85, _⟩ => ⟨S1x512x768, .bf16⟩
  | .local _ .vmem, ⟨86, _⟩ => ⟨S1x512x768, .bf16⟩
  | .local _ .vmem, ⟨87, _⟩ => ⟨S1x512x768, .bf16⟩
  | .local _ .vmem, ⟨88, _⟩ => ⟨S1x1536x768, .bf16⟩
  | .local _ .vmem, ⟨89, _⟩ => ⟨S1x1536x768, .bf16⟩
  | .local _ .vmem, ⟨90, _⟩ => ⟨S1x1536x768, .bf16⟩
  | .local _ .vmem, ⟨91, _⟩ => ⟨S1x1536x768, .bf16⟩
  | .local _ .vmem, ⟨92, _⟩ => ⟨S1x512x768, .bf16⟩
  | .local _ .vmem, ⟨93, _⟩ => ⟨S1x512x768, .bf16⟩
  | .local _ .vmem, ⟨94, _⟩ => ⟨S1x512x768, .bf16⟩
  | .local _ .vmem, ⟨95, _⟩ => ⟨S1x512x768, .bf16⟩
  | .local _ .vmem, ⟨96, _⟩ => ⟨S1x2048x768, .bf16⟩
  | .local _ .vmem, ⟨97, _⟩ => ⟨S1x2048x768, .bf16⟩
  | .local _ .vmem, ⟨98, _⟩ => ⟨S1x2048x768, .bf16⟩
  | .local _ .vmem, ⟨99, _⟩ => ⟨S1x2048x768, .bf16⟩
  | .local _ .vmem, ⟨100, _⟩ => ⟨S1x512x768, .bf16⟩
  | .local _ .vmem, ⟨101, _⟩ => ⟨S1x512x768, .bf16⟩
  | .local _ .vmem, ⟨102, _⟩ => ⟨S1024x768, .f32⟩
  | .local _ .vmem, ⟨103, _⟩ => ⟨S1024x768, .f32⟩
  | .local _ .vmem, ⟨104, _⟩ => ⟨S1024x768, .bf16⟩
  | .local _ .vmem, ⟨105, _⟩ => ⟨S1024x768, .bf16⟩
  | .local _ .vmem, ⟨106, _⟩ => ⟨S768x768, .bf16⟩
  | .local _ .vmem, ⟨107, _⟩ => ⟨S1x768, .f32⟩
  | .local _ .vmem, ⟨108, _⟩ => ⟨S768x4096, .bf16⟩
  | .local _ .vmem, ⟨109, _⟩ => ⟨S2048x768, .bf16⟩
  | .local _ .vmem, ⟨110, _⟩ => ⟨S1024x768, .f32⟩
  | .local _ .vmem, ⟨111, _⟩ => ⟨S1024x768, .f32⟩
  | .local _ .vmem, ⟨112, _⟩ => ⟨S1024x768, .f32⟩
  | .local _ .vmem, ⟨113, _⟩ => ⟨S1024x768, .f32⟩
  | .local _ .vmem, ⟨114, _⟩ => ⟨S1x768, .f32⟩
  | .local _ .vmem, ⟨115, _⟩ => ⟨S1024x768, .f32⟩
  | .local _ .vmem, ⟨116, _⟩ => ⟨S1024x768, .f32⟩
  | .local _ .vmem, ⟨117, _⟩ => ⟨S64x768, .f32⟩
  | .local _ .vmem, ⟨118, _⟩ => ⟨S64x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 119 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | _ => false

abbrev sig : RefSig :=
  ofTc nBuf bufTy 0 119 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79_0 : Ref sig .tc := ⟨.hbm, 94, rfl⟩
abbrev main_v79_1 : Ref sig .tc := ⟨.hbm, 95, rfl⟩
abbrev main_v79_2 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106_0 : Ref sig .tc := ⟨.hbm, 123, rfl⟩
abbrev main_v106_1 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_c : Ref sig .tc := ⟨.hbm, 128, rfl⟩
abbrev main_v110 : Ref sig .tc := ⟨.hbm, 129, rfl⟩
abbrev main_v111 : Ref sig .tc := ⟨.hbm, 130, rfl⟩
abbrev main_c_0 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_c_1 : Ref sig .tc := ⟨.hbm, 136, rfl⟩
abbrev main_v116 : Ref sig .tc := ⟨.hbm, 137, rfl⟩
abbrev main_cst : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg3_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg3_1 : Ref sig .tc := ⟨.vmem, 61, rfl⟩
abbrev cc6_stg4_0 : Ref sig .tc := ⟨.vmem, 62, rfl⟩
abbrev cc6_stg4_1 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg2_1 : Ref sig .tc := ⟨.vmem, 75, rfl⟩
abbrev cc7_stg3_0 : Ref sig .tc := ⟨.vmem, 76, rfl⟩
abbrev cc7_stg3_1 : Ref sig .tc := ⟨.vmem, 77, rfl⟩
abbrev cc8_stg0_0 : Ref sig .tc := ⟨.vmem, 78, rfl⟩
abbrev cc8_stg0_1 : Ref sig .tc := ⟨.vmem, 79, rfl⟩
abbrev cc8_stg1_0 : Ref sig .tc := ⟨.vmem, 80, rfl⟩
abbrev cc8_stg1_1 : Ref sig .tc := ⟨.vmem, 81, rfl⟩
abbrev cc8_stg2_0 : Ref sig .tc := ⟨.vmem, 82, rfl⟩
abbrev cc8_stg2_1 : Ref sig .tc := ⟨.vmem, 83, rfl⟩
abbrev cc8_stg3_0 : Ref sig .tc := ⟨.vmem, 84, rfl⟩
abbrev cc8_stg3_1 : Ref sig .tc := ⟨.vmem, 85, rfl⟩
abbrev cc9_stg0_0 : Ref sig .tc := ⟨.vmem, 86, rfl⟩
abbrev cc9_stg0_1 : Ref sig .tc := ⟨.vmem, 87, rfl⟩
abbrev cc9_stg1_0 : Ref sig .tc := ⟨.vmem, 88, rfl⟩
abbrev cc9_stg1_1 : Ref sig .tc := ⟨.vmem, 89, rfl⟩
abbrev cc9_stg2_0 : Ref sig .tc := ⟨.vmem, 90, rfl⟩
abbrev cc9_stg2_1 : Ref sig .tc := ⟨.vmem, 91, rfl⟩
abbrev cc9_stg3_0 : Ref sig .tc := ⟨.vmem, 92, rfl⟩
abbrev cc9_stg3_1 : Ref sig .tc := ⟨.vmem, 93, rfl⟩
abbrev cc10_stg0_0 : Ref sig .tc := ⟨.vmem, 94, rfl⟩
abbrev cc10_stg0_1 : Ref sig .tc := ⟨.vmem, 95, rfl⟩
abbrev cc10_stg1_0 : Ref sig .tc := ⟨.vmem, 96, rfl⟩
abbrev cc10_stg1_1 : Ref sig .tc := ⟨.vmem, 97, rfl⟩
abbrev cc10_stg2_0 : Ref sig .tc := ⟨.vmem, 98, rfl⟩
abbrev cc10_stg2_1 : Ref sig .tc := ⟨.vmem, 99, rfl⟩
abbrev cc10_stg3_0 : Ref sig .tc := ⟨.vmem, 100, rfl⟩
abbrev cc10_stg3_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg3_0 : Ref sig .tc := ⟨.vmem, 107, rfl⟩
abbrev cc11_stg4_0 : Ref sig .tc := ⟨.vmem, 108, rfl⟩
abbrev cc11_stg5_0 : Ref sig .tc := ⟨.vmem, 109, rfl⟩
abbrev cc11_stg6_0 : Ref sig .tc := ⟨.vmem, 110, rfl⟩
abbrev cc11_stg6_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg2_0 : Ref sig .tc := ⟨.vmem, 115, rfl⟩
abbrev cc12_stg2_1 : Ref sig .tc := ⟨.vmem, 116, rfl⟩
abbrev cc12_stg3_0 : Ref sig .tc := ⟨.vmem, 117, rfl⟩
abbrev cc12_stg3_1 : Ref sig .tc := ⟨.vmem, 118, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem3_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem6_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem3_1 : DmaSem sig := 61
abbrev cc6_sem4_0 : DmaSem sig := 62
abbrev cc6_sem4_1 : DmaSem sig := 63
abbrev cc6_sem5_0 : DmaSem sig := 64
abbrev cc6_sem5_1 : DmaSem sig := 65
abbrev cc6_sem6_0 : DmaSem sig := 66
abbrev cc6_sem6_1 : DmaSem sig := 67
abbrev cc6_sem7_0 : DmaSem sig := 68
abbrev cc6_sem7_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem2_1 : DmaSem sig := 75
abbrev cc7_sem3_0 : DmaSem sig := 76
abbrev cc7_sem3_1 : DmaSem sig := 77
abbrev cc8_sem0_0 : DmaSem sig := 78
abbrev cc8_sem0_1 : DmaSem sig := 79
abbrev cc8_sem1_0 : DmaSem sig := 80
abbrev cc8_sem1_1 : DmaSem sig := 81
abbrev cc8_sem2_0 : DmaSem sig := 82
abbrev cc8_sem2_1 : DmaSem sig := 83
abbrev cc8_sem3_0 : DmaSem sig := 84
abbrev cc8_sem3_1 : DmaSem sig := 85
abbrev cc9_sem0_0 : DmaSem sig := 86
abbrev cc9_sem0_1 : DmaSem sig := 87
abbrev cc9_sem1_0 : DmaSem sig := 88
abbrev cc9_sem1_1 : DmaSem sig := 89
abbrev cc9_sem2_0 : DmaSem sig := 90
abbrev cc9_sem2_1 : DmaSem sig := 91
abbrev cc9_sem3_0 : DmaSem sig := 92
abbrev cc9_sem3_1 : DmaSem sig := 93
abbrev cc10_sem0_0 : DmaSem sig := 94
abbrev cc10_sem0_1 : DmaSem sig := 95
abbrev cc10_sem1_0 : DmaSem sig := 96
abbrev cc10_sem1_1 : DmaSem sig := 97
abbrev cc10_sem2_0 : DmaSem sig := 98
abbrev cc10_sem2_1 : DmaSem sig := 99
abbrev cc10_sem3_0 : DmaSem sig := 100
abbrev cc10_sem3_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem3_0 : DmaSem sig := 107
abbrev cc11_sem4_0 : DmaSem sig := 108
abbrev cc11_sem5_0 : DmaSem sig := 109
abbrev cc11_sem6_0 : DmaSem sig := 110
abbrev cc11_sem6_1 : DmaSem sig := 111
abbrev cc12_sem0_0 : DmaSem sig := 112
abbrev cc12_sem0_1 : DmaSem sig := 113
abbrev cc12_sem1_0 : DmaSem sig := 114
abbrev cc12_sem2_0 : DmaSem sig := 115
abbrev cc12_sem2_1 : DmaSem sig := 116
abbrev cc12_sem3_0 : DmaSem sig := 117
abbrev cc12_sem3_1 : DmaSem sig := 118

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x768 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x512x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1536x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1536x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x768 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048x768 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048x768 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x512x768 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S768x768 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S768x4096 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x768 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1024x768 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc6_transform_6 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc6_transform_7 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage6_0 : Fin 2 → Memref sig .tc .vmem S1024x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S1x768 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S768x3840 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 2 → Memref sig .tc .vmem S1024x768 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S1024x768 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1024x768 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S1024x768 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1024x768 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev grid7 : Pipeline.Grid := ⟨1, ![4], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x512x768 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x512x768 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x512x768 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1x512x768 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![4], ![false]⟩

def cc8_transform_0 (i : grid8.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x512x768 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1024x768 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x1024x768 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x512x768 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![4], ![false]⟩

def cc9_transform_0 (i : grid9.Coords) : Fin 3 → Nat :=
  let arg0 : BitVec 32 := BitVec.ofNat 32 (i 0).val
  let c2_i32 : BitVec 32 := 2#32
  let c0_i32 : BitVec 32 := 0#32
  let c0_i32_0 : BitVec 32 := 0#32
  ![arg0.toNat, c2_i32.toNat, c0_i32.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x512x768 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1536x768 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x1536x768 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S1x512x768 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![4], ![false]⟩

def cc10_transform_0 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x512x768 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x2048x768 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x2048x768 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S1x512x768 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x768 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1024x768 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S768x768 .bf16 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x768 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S768x4096 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S2048x768 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S1024x768 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x768 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x768 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S1024x768 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S64x768 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]
-- ==== KernelIdeal.lean ====
variable {F : FTy → Type} [FloatOps F] [Named F]
def κ : String → Option EReal := fun
  | "mask" => some ⊥
  | _ => none
-- ==== ReferenceIdeal.lean ====
abbrev S4x2048x768 : Shape := ⟨3, ![4, 2048, 768]⟩
abbrev S2048x64 : Shape := ⟨2, ![2048, 64]⟩
abbrev S2x768 : Shape := ⟨2, ![2, 768]⟩
abbrev S2x768x768 : Shape := ⟨3, ![2, 768, 768]⟩
abbrev S2x768x2048 : Shape := ⟨3, ![2, 768, 2048]⟩
abbrev S2x2048x768 : Shape := ⟨3, ![2, 2048, 768]⟩
abbrev S768 : Shape := ⟨1, ![768]⟩
abbrev S1x768 : Shape := ⟨2, ![1, 768]⟩
abbrev S1x768x768 : Shape := ⟨3, ![1, 768, 768]⟩
abbrev S768x768 : Shape := ⟨2, ![768, 768]⟩
abbrev S1x768x2048 : Shape := ⟨3, ![1, 768, 2048]⟩
abbrev S768x2048 : Shape := ⟨2, ![768, 2048]⟩
abbrev S1x2048x768 : Shape := ⟨3, ![1, 2048, 768]⟩
abbrev S2048x768 : Shape := ⟨2, ![2048, 768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x12x64 : Shape := ⟨4, ![4, 2048, 12, 64]⟩
abbrev S4x12x2048x64 : Shape := ⟨4, ![4, 12, 2048, 64]⟩
abbrev S1x1x2048x64 : Shape := ⟨4, ![1, 1, 2048, 64]⟩
abbrev S4x12x2048x32 : Shape := ⟨4, ![4, 12, 2048, 32]⟩
abbrev S4x12x2048x2048 : Shape := ⟨4, ![4, 12, 2048, 2048]⟩
abbrev S2048x2048 : Shape := ⟨2, ![2048, 2048]⟩
abbrev S1x1x2048x2048 : Shape := ⟨4, ![1, 1, 2048, 2048]⟩
abbrev S4x12x2048 : Shape := ⟨3, ![4, 12, 2048]⟩
abbrev S4x12x2048x1 : Shape := ⟨4, ![4, 12, 2048, 1]⟩
abbrev S4x2048x2048 : Shape := ⟨3, ![4, 2048, 2048]⟩
abbrev S128 : Shape := ⟨1, ![128]⟩
abbrev S4x128x2048 : Shape := ⟨3, ![4, 128, 2048]⟩
abbrev S128x1 : Shape := ⟨2, ![128, 1]⟩
abbrev S128x2 : Shape := ⟨2, ![128, 2]⟩
abbrev S4x128 : Shape := ⟨2, ![4, 128]⟩
abbrev S4x128x768 : Shape := ⟨3, ![4, 128, 768]⟩
abbrev S1x128 : Shape := ⟨2, ![1, 128]⟩
abbrev S4 : Shape := ⟨1, ![4]⟩

abbrev nBuf : Space → Nat
  | .hbm => 331
  | .vmem => 0
  | .smem => 0
  | _ => 0

abbrev hbmTy0_0 (i : Nat) : BufTy := match i % 128 with
  | 0 => ⟨S4x2048x768, .f32⟩
  | 1 => ⟨S2048x64, .f32⟩
  | 2 => ⟨S2048x64, .f32⟩
  | 3 => ⟨S2x768, .f32⟩
  | 4 => ⟨S2x768x768, .f32⟩
  | 5 => ⟨S2x768x768, .f32⟩
  | 6 => ⟨S2x768x768, .f32⟩
  | 7 => ⟨S2x768x768, .f32⟩
  | 8 => ⟨S2x768, .f32⟩
  | 9 => ⟨S2x768x2048, .f32⟩
  | 10 => ⟨S2x2048x768, .f32⟩
  | 11 => ⟨S2x768x2048, .f32⟩
  | 12 => ⟨S768, .f32⟩
  | 13 => ⟨S1x768, .f32⟩
  | 14 => ⟨S768, .f32⟩
  | 15 => ⟨S1x768x768, .f32⟩
  | 16 => ⟨S768x768, .f32⟩
  | 17 => ⟨S1x768x768, .f32⟩
  | 18 => ⟨S768x768, .f32⟩
  | 19 => ⟨S1x768x768, .f32⟩
  | 20 => ⟨S768x768, .f32⟩
  | 21 => ⟨S1x768x768, .f32⟩
  | 22 => ⟨S768x768, .f32⟩
  | 23 => ⟨S1x768, .f32⟩
  | 24 => ⟨S768, .f32⟩
  | 25 => ⟨S1x768x2048, .f32⟩
  | 26 => ⟨S768x2048, .f32⟩
  | 27 => ⟨S1x2048x768, .f32⟩
  | 28 => ⟨S2048x768, .f32⟩
  | 29 => ⟨S1x768x2048, .f32⟩
  | 30 => ⟨S768x2048, .f32⟩
  | 31 => ⟨S4x2048x768, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x1, .f32⟩
  | 42 => ⟨S4x2048x768, .f32⟩
  | 43 => ⟨S4x2048x768, .f32⟩
  | 44 => ⟨S1x1x768, .f32⟩
  | 45 => ⟨S4x2048x768, .f32⟩
  | 46 => ⟨S4x2048x768, .f32⟩
  | 47 => ⟨S4x2048x768, .f32⟩
  | 48 => ⟨S4x2048x12x64, .f32⟩
  | 49 => ⟨S4x12x2048x64, .f32⟩
  | 50 => ⟨S4x2048x768, .f32⟩
  | 51 => ⟨S4x2048x12x64, .f32⟩
  | 52 => ⟨S4x12x2048x64, .f32⟩
  | 53 => ⟨S4x2048x768, .f32⟩
  | 54 => ⟨S4x2048x12x64, .f32⟩
  | 55 => ⟨S4x12x2048x64, .f32⟩
  | 56 => ⟨S1x1x2048x64, .f32⟩
  | 57 => ⟨S1x1x2048x64, .f32⟩
  | 58 => ⟨S4x12x2048x64, .f32⟩
  | 59 => ⟨S4x12x2048x64, .f32⟩
  | 60 => ⟨S4x12x2048x32, .f32⟩
  | 61 => ⟨S4x12x2048x32, .f32⟩
  | 62 => ⟨S4x12x2048x32, .f32⟩
  | 63 => ⟨S4x12x2048x64, .f32⟩
  | 64 => ⟨S4x12x2048x64, .f32⟩
  | 65 => ⟨S4x12x2048x64, .f32⟩
  | 66 => ⟨S4x12x2048x64, .f32⟩
  | 67 => ⟨S4x12x2048x64, .f32⟩
  | 68 => ⟨S4x12x2048x64, .f32⟩
  | 69 => ⟨S4x12x2048x32, .f32⟩
  | 70 => ⟨S4x12x2048x32, .f32⟩
  | 71 => ⟨S4x12x2048x32, .f32⟩
  | 72 => ⟨S4x12x2048x64, .f32⟩
  | 73 => ⟨S4x12x2048x64, .f32⟩
  | 74 => ⟨S4x12x2048x64, .f32⟩
  | 75 => ⟨S4x12x2048x64, .f32⟩
  | 76 => ⟨S4x12x2048x2048, .f32⟩
  | 77 => ⟨S_, .f32⟩
  | 78 => ⟨S4x12x2048x2048, .f32⟩
  | 79 => ⟨S4x12x2048x2048, .f32⟩
  | 80 => ⟨S_, .i1⟩
  | 81 => ⟨S2048x2048, .i1⟩
  | 82 => ⟨S2048x2048, .i32⟩
  | 83 => ⟨S_, .i32⟩
  | 84 => ⟨S2048x2048, .i32⟩
  | 85 => ⟨S2048x2048, .i32⟩
  | 86 => ⟨S2048x2048, .i32⟩
  | 87 => ⟨S2048x2048, .i1⟩
  | 88 => ⟨S_, .i1⟩
  | 89 => ⟨S2048x2048, .i1⟩
  | 90 => ⟨S2048x2048, .i1⟩
  | 91 => ⟨S1x1x2048x2048, .i1⟩
  | 92 => ⟨S_, .f32⟩
  | 93 => ⟨S_, .f32⟩
  | 94 => ⟨S4x12x2048x2048, .i1⟩
  | 95 => ⟨S4x12x2048x2048, .f32⟩
  | 96 => ⟨S4x12x2048x2048, .f32⟩
  | 97 => ⟨S_, .f32⟩
  | 98 => ⟨S4x12x2048, .f32⟩
  | 99 => ⟨S_, .f32⟩
  | 100 => ⟨S4x12x2048, .f32⟩
  | 101 => ⟨S4x12x2048, .f32⟩
  | 102 => ⟨S4x12x2048x1, .f32⟩
  | 103 => ⟨S4x12x2048x2048, .f32⟩
  | 104 => ⟨S4x12x2048x2048, .f32⟩
  | 105 => ⟨S4x12x2048x2048, .f32⟩
  | 106 => ⟨S_, .f32⟩
  | 107 => ⟨S4x12x2048, .f32⟩
  | 108 => ⟨S4x12x2048x1, .f32⟩
  | 109 => ⟨S4x12x2048x2048, .f32⟩
  | 110 => ⟨S4x12x2048x2048, .f32⟩
  | 111 => ⟨S4x12x2048x64, .f32⟩
  | 112 => ⟨S4x2048x12x64, .f32⟩
  | 113 => ⟨S4x2048x768, .f32⟩
  | 114 => ⟨S4x2048x768, .f32⟩
  | 115 => ⟨S4x2048x768, .f32⟩
  | 116 => ⟨S4x2048x768, .f32⟩
  | 117 => ⟨S_, .f32⟩
  | 118 => ⟨S4x2048, .f32⟩
  | 119 => ⟨S4x2048x1, .f32⟩
  | 120 => ⟨S_, .f32⟩
  | 121 => ⟨S4x2048x1, .f32⟩
  | 122 => ⟨S4x2048x1, .f32⟩
  | 123 => ⟨S_, .f32⟩
  | 124 => ⟨S4x2048x1, .f32⟩
  | 125 => ⟨S4x2048x1, .f32⟩
  | 126 => ⟨S4x2048x1, .f32⟩
  | 127 => ⟨S4x2048x768, .f32⟩
  | _ => ⟨S4x2048x768, .f32⟩

abbrev hbmTy0_1 (i : Nat) : BufTy := match i % 128 with
  | 0 => ⟨S4x2048x768, .f32⟩
  | 1 => ⟨S1x1x768, .f32⟩
  | 2 => ⟨S4x2048x768, .f32⟩
  | 3 => ⟨S4x2048x768, .f32⟩
  | 4 => ⟨S4x2048x2048, .f32⟩
  | 5 => ⟨S4x2048x2048, .f32⟩
  | 6 => ⟨S4x2048x2048, .f32⟩
  | 7 => ⟨S_, .f32⟩
  | 8 => ⟨S4x2048x2048, .f32⟩
  | 9 => ⟨S4x2048x2048, .f32⟩
  | 10 => ⟨S_, .f32⟩
  | 11 => ⟨S4x2048x2048, .f32⟩
  | 12 => ⟨S4x2048x2048, .f32⟩
  | 13 => ⟨S4x2048x2048, .f32⟩
  | 14 => ⟨S4x2048x2048, .f32⟩
  | 15 => ⟨S4x2048x2048, .f32⟩
  | 16 => ⟨S4x2048x768, .f32⟩
  | 17 => ⟨S4x2048x768, .f32⟩
  | 18 => ⟨S1x768, .f32⟩
  | 19 => ⟨S768, .f32⟩
  | 20 => ⟨S1x768x768, .f32⟩
  | 21 => ⟨S768x768, .f32⟩
  | 22 => ⟨S1x768x768, .f32⟩
  | 23 => ⟨S768x768, .f32⟩
  | 24 => ⟨S1x768x768, .f32⟩
  | 25 => ⟨S768x768, .f32⟩
  | 26 => ⟨S1x768x768, .f32⟩
  | 27 => ⟨S768x768, .f32⟩
  | 28 => ⟨S1x768, .f32⟩
  | 29 => ⟨S768, .f32⟩
  | 30 => ⟨S1x768x2048, .f32⟩
  | 31 => ⟨S768x2048, .f32⟩
  | 32 => ⟨S1x2048x768, .f32⟩
  | 33 => ⟨S2048x768, .f32⟩
  | 34 => ⟨S1x768x2048, .f32⟩
  | 35 => ⟨S768x2048, .f32⟩
  | 36 => ⟨S4x2048x768, .f32⟩
  | 37 => ⟨S_, .f32⟩
  | 38 => ⟨S4x2048, .f32⟩
  | 39 => ⟨S4x2048x1, .f32⟩
  | 40 => ⟨S_, .f32⟩
  | 41 => ⟨S4x2048x1, .f32⟩
  | 42 => ⟨S4x2048x1, .f32⟩
  | 43 => ⟨S_, .f32⟩
  | 44 => ⟨S4x2048x1, .f32⟩
  | 45 => ⟨S4x2048x1, .f32⟩
  | 46 => ⟨S4x2048x1, .f32⟩
  | 47 => ⟨S4x2048x768, .f32⟩
  | 48 => ⟨S4x2048x768, .f32⟩
  | 49 => ⟨S1x1x768, .f32⟩
  | 50 => ⟨S4x2048x768, .f32⟩
  | 51 => ⟨S4x2048x768, .f32⟩
  | 52 => ⟨S4x2048x768, .f32⟩
  | 53 => ⟨S4x2048x12x64, .f32⟩
  | 54 => ⟨S4x12x2048x64, .f32⟩
  | 55 => ⟨S4x2048x768, .f32⟩
  | 56 => ⟨S4x2048x12x64, .f32⟩
  | 57 => ⟨S4x12x2048x64, .f32⟩
  | 58 => ⟨S4x2048x768, .f32⟩
  | 59 => ⟨S4x2048x12x64, .f32⟩
  | 60 => ⟨S4x12x2048x64, .f32⟩
  | 61 => ⟨S1x1x2048x64, .f32⟩
  | 62 => ⟨S1x1x2048x64, .f32⟩
  | 63 => ⟨S4x12x2048x64, .f32⟩
  | 64 => ⟨S4x12x2048x64, .f32⟩
  | 65 => ⟨S4x12x2048x32, .f32⟩
  | 66 => ⟨S4x12x2048x32, .f32⟩
  | 67 => ⟨S4x12x2048x32, .f32⟩
  | 68 => ⟨S4x12x2048x64, .f32⟩
  | 69 => ⟨S4x12x2048x64, .f32⟩
  | 70 => ⟨S4x12x2048x64, .f32⟩
  | 71 => ⟨S4x12x2048x64, .f32⟩
  | 72 => ⟨S4x12x2048x64, .f32⟩
  | 73 => ⟨S4x12x2048x64, .f32⟩
  | 74 => ⟨S4x12x2048x32, .f32⟩
  | 75 => ⟨S4x12x2048x32, .f32⟩
  | 76 => ⟨S4x12x2048x32, .f32⟩
  | 77 => ⟨S4x12x2048x64, .f32⟩
  | 78 => ⟨S4x12x2048x64, .f32⟩
  | 79 => ⟨S4x12x2048x64, .f32⟩
  | 80 => ⟨S4x12x2048x64, .f32⟩
  | 81 => ⟨S4x12x2048x2048, .f32⟩
  | 82 => ⟨S_, .f32⟩
  | 83 => ⟨S4x12x2048x2048, .f32⟩
  | 84 => ⟨S4x12x2048x2048, .f32⟩
  | 85 => ⟨S_, .i1⟩
  | 86 => ⟨S2048x2048, .i1⟩
  | 87 => ⟨S2048x2048, .i32⟩
  | 88 => ⟨S_, .i32⟩
  | 89 => ⟨S2048x2048, .i32⟩
  | 90 => ⟨S2048x2048, .i32⟩
  | 91 => ⟨S2048x2048, .i32⟩
  | 92 => ⟨S2048x2048, .i1⟩
  | 93 => ⟨S_, .i1⟩
  | 94 => ⟨S2048x2048, .i1⟩
  | 95 => ⟨S2048x2048, .i1⟩
  | 96 => ⟨S1x1x2048x2048, .i1⟩
  | 97 => ⟨S_, .f32⟩
  | 98 => ⟨S_, .f32⟩
  | 99 => ⟨S4x12x2048x2048, .i1⟩
  | 100 => ⟨S4x12x2048x2048, .f32⟩
  | 101 => ⟨S4x12x2048x2048, .f32⟩
  | 102 => ⟨S_, .f32⟩
  | 103 => ⟨S4x12x2048, .f32⟩
  | 104 => ⟨S_, .f32⟩
  | 105 => ⟨S4x12x2048, .f32⟩
  | 106 => ⟨S4x12x2048, .f32⟩
  | 107 => ⟨S4x12x2048x1, .f32⟩
  | 108 => ⟨S4x12x2048x2048, .f32⟩
  | 109 => ⟨S4x12x2048x2048, .f32⟩
  | 110 => ⟨S4x12x2048x2048, .f32⟩
  | 111 => ⟨S_, .f32⟩
  | 112 => ⟨S4x12x2048, .f32⟩
  | 113 => ⟨S4x12x2048x1, .f32⟩
  | 114 => ⟨S4x12x2048x2048, .f32⟩
  | 115 => ⟨S4x12x2048x2048, .f32⟩
  | 116 => ⟨S4x12x2048x64, .f32⟩
  | 117 => ⟨S4x2048x12x64, .f32⟩
  | 118 => ⟨S4x2048x768, .f32⟩
  | 119 => ⟨S4x2048x768, .f32⟩
  | 120 => ⟨S4x2048x768, .f32⟩
  | 121 => ⟨S4x2048x768, .f32⟩
  | 122 => ⟨S_, .f32⟩
  | 123 => ⟨S4x2048, .f32⟩
  | 124 => ⟨S4x2048x1, .f32⟩
  | 125 => ⟨S_, .f32⟩
  | 126 => ⟨S4x2048x1, .f32⟩
  | 127 => ⟨S4x2048x1, .f32⟩
  | _ => ⟨S4x2048x768, .f32⟩

abbrev hbmTy0_2 (i : Nat) : BufTy := match i % 128 with
  | 0 => ⟨S_, .f32⟩
  | 1 => ⟨S4x2048x1, .f32⟩
  | 2 => ⟨S4x2048x1, .f32⟩
  | 3 => ⟨S4x2048x1, .f32⟩
  | 4 => ⟨S4x2048x768, .f32⟩
  | 5 => ⟨S4x2048x768, .f32⟩
  | 6 => ⟨S1x1x768, .f32⟩
  | 7 => ⟨S4x2048x768, .f32⟩
  | 8 => ⟨S4x2048x768, .f32⟩
  | 9 => ⟨S4x2048x2048, .f32⟩
  | 10 => ⟨S4x2048x2048, .f32⟩
  | 11 => ⟨S4x2048x2048, .f32⟩
  | 12 => ⟨S_, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S4x2048x2048, .f32⟩
  | 20 => ⟨S4x2048x2048, .f32⟩
  | 21 => ⟨S4x2048x768, .f32⟩
  | 22 => ⟨S4x2048x768, .f32⟩
  | 23 => ⟨S4x2048x768, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x768, .f32⟩
  | 35 => ⟨S4x2048x768, .f32⟩
  | 36 => ⟨S1x1x768, .f32⟩
  | 37 => ⟨S4x2048x768, .f32⟩
  | 38 => ⟨S4x2048x768, .f32⟩
  | 39 => ⟨S128, .i32⟩
  | 40 => ⟨S_, .i32⟩
  | 41 => ⟨S128, .i32⟩
  | 42 => ⟨S128, .i32⟩
  | 43 => ⟨S_, .i32⟩
  | 44 => ⟨S128, .i32⟩
  | 45 => ⟨S128, .i32⟩
  | 46 => ⟨S_, .f32⟩
  | 47 => ⟨S4x128x2048, .f32⟩
  | 48 => ⟨S128, .i32⟩
  | 49 => ⟨S_, .i32⟩
  | 50 => ⟨S128, .i32⟩
  | 51 => ⟨S128, .i1⟩
  | 52 => ⟨S_, .i32⟩
  | 53 => ⟨S128, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i32⟩
  | 62 => ⟨S128, .i32⟩
  | 63 => ⟨S128x1, .i32⟩
  | 64 => ⟨S128x1, .i32⟩
  | 65 => ⟨S128x2, .i32⟩
  | 66 => ⟨S_, .f32⟩
  | 67 => ⟨S4x128, .f32⟩
  | 68 => ⟨S4x128x2048, .f32⟩
  | 69 => ⟨S4x128x768, .f32⟩
  | 70 => ⟨S1x128, .i32⟩
  | 71 => ⟨S4x128, .i32⟩
  | 72 => ⟨S_, .i32⟩
  | 73 => ⟨S4, .i32⟩
  | 74 => ⟨S_, .f32⟩
  | _ => ⟨S4x2048x768, .f32⟩

abbrev hbmTy (i : Nat) : BufTy := match i / 128 with
  | 0 => hbmTy0_0 i
  | 1 => hbmTy0_1 i
  | 2 => hbmTy0_2 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_2 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_v63 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v64 : Ref sig .tc := ⟨.hbm, 90, rfl⟩
abbrev main_v65 : Ref sig .tc := ⟨.hbm, 91, rfl⟩
abbrev main_cst_3 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v66 : Ref sig .tc := ⟨.hbm, 96, rfl⟩
abbrev main_cst_4 : Ref sig .tc := ⟨.hbm, 97, rfl⟩
abbrev main_v67 : Ref sig .tc := ⟨.hbm, 98, rfl⟩
abbrev main_cst_5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_6 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_7 : Ref sig .tc := ⟨.hbm, 117, rfl⟩
abbrev main_v84 : Ref sig .tc := ⟨.hbm, 118, rfl⟩
abbrev main_v85 : Ref sig .tc := ⟨.hbm, 119, rfl⟩
abbrev main_cst_8 : Ref sig .tc := ⟨.hbm, 120, rfl⟩
abbrev main_v86 : Ref sig .tc := ⟨.hbm, 121, rfl⟩
abbrev main_v87 : Ref sig .tc := ⟨.hbm, 122, rfl⟩
abbrev main_cst_9 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_10 : Ref sig .tc := ⟨.hbm, 165, rfl⟩
abbrev main_v121 : Ref sig .tc := ⟨.hbm, 166, rfl⟩
abbrev main_v122 : Ref sig .tc := ⟨.hbm, 167, rfl⟩
abbrev main_cst_11 : Ref sig .tc := ⟨.hbm, 168, rfl⟩
abbrev main_v123 : Ref sig .tc := ⟨.hbm, 169, rfl⟩
abbrev main_v124 : Ref sig .tc := ⟨.hbm, 170, rfl⟩
abbrev main_cst_12 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_13 : Ref sig .tc := ⟨.hbm, 210, rfl⟩
abbrev main_v163 : Ref sig .tc := ⟨.hbm, 211, rfl⟩
abbrev main_v164 : Ref sig .tc := ⟨.hbm, 212, rfl⟩
abbrev main_c_14 : Ref sig .tc := ⟨.hbm, 213, rfl⟩
abbrev main_v165 : Ref sig .tc := ⟨.hbm, 214, rfl⟩
abbrev main_call3_v0 : Ref sig .tc := ⟨.hbm, 215, rfl⟩
abbrev main_call3_c : Ref sig .tc := ⟨.hbm, 216, rfl⟩
abbrev main_call3_v1 : Ref sig .tc := ⟨.hbm, 217, rfl⟩
abbrev main_call3_v2 : Ref sig .tc := ⟨.hbm, 218, rfl⟩
abbrev main_call3_v3 : Ref sig .tc := ⟨.hbm, 219, rfl⟩
abbrev main_call3_v4 : Ref sig .tc := ⟨.hbm, 220, rfl⟩
abbrev main_call3_c_0 : Ref sig .tc := ⟨.hbm, 221, rfl⟩
abbrev main_call3_v5 : Ref sig .tc := ⟨.hbm, 222, rfl⟩
abbrev main_v166 : Ref sig .tc := ⟨.hbm, 223, rfl⟩
abbrev main_v167 : Ref sig .tc := ⟨.hbm, 224, rfl⟩
abbrev main_cst_15 : Ref sig .tc := ⟨.hbm, 225, rfl⟩
abbrev main_call4_v0 : Ref sig .tc := ⟨.hbm, 226, rfl⟩
abbrev main_call4_v1 : Ref sig .tc := ⟨.hbm, 227, rfl⟩
abbrev main_call4_v2 : Ref sig .tc := ⟨.hbm, 228, rfl⟩
abbrev main_v168 : Ref sig .tc := ⟨.hbm, 229, rfl⟩
abbrev main_cst_16 : Ref sig .tc := ⟨.hbm, 230, rfl⟩
abbrev main_v169 : Ref sig .tc := ⟨.hbm, 231, rfl⟩
abbrev main_cst_17 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_cst_18 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_19 : Ref sig .tc := ⟨.hbm, 250, rfl⟩
abbrev main_v186 : Ref sig .tc := ⟨.hbm, 251, rfl⟩
abbrev main_v187 : Ref sig .tc := ⟨.hbm, 252, rfl⟩
abbrev main_cst_20 : Ref sig .tc := ⟨.hbm, 253, rfl⟩
abbrev main_v188 : Ref sig .tc := ⟨.hbm, 254, rfl⟩
abbrev main_v189 : Ref sig .tc := ⟨.hbm, 255, rfl⟩
abbrev main_cst_21 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_call5_v0 : Ref sig .tc := ⟨.hbm, 266, rfl⟩
abbrev main_call5_v1 : Ref sig .tc := ⟨.hbm, 267, rfl⟩
abbrev main_call5_cst : Ref sig .tc := ⟨.hbm, 268, rfl⟩
abbrev main_call5_v2 : Ref sig .tc := ⟨.hbm, 269, rfl⟩
abbrev main_call5_v3 : Ref sig .tc := ⟨.hbm, 270, rfl⟩
abbrev main_call5_cst_0 : Ref sig .tc := ⟨.hbm, 271, rfl⟩
abbrev main_call5_v4 : Ref sig .tc := ⟨.hbm, 272, rfl⟩
abbrev main_call5_v5 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_cst_22 : Ref sig .tc := ⟨.hbm, 280, rfl⟩
abbrev main_v205 : Ref sig .tc := ⟨.hbm, 281, rfl⟩
abbrev main_v206 : Ref sig .tc := ⟨.hbm, 282, rfl⟩
abbrev main_cst_23 : Ref sig .tc := ⟨.hbm, 283, rfl⟩
abbrev main_v207 : Ref sig .tc := ⟨.hbm, 284, rfl⟩
abbrev main_v208 : Ref sig .tc := ⟨.hbm, 285, rfl⟩
abbrev main_cst_24 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_c_25 : Ref sig .tc := ⟨.hbm, 296, rfl⟩
abbrev main_v218 : Ref sig .tc := ⟨.hbm, 297, rfl⟩
abbrev main_v219 : Ref sig .tc := ⟨.hbm, 298, rfl⟩
abbrev main_c_26 : Ref sig .tc := ⟨.hbm, 299, rfl⟩
abbrev main_v220 : Ref sig .tc := ⟨.hbm, 300, rfl⟩
abbrev main_v221 : Ref sig .tc := ⟨.hbm, 301, rfl⟩
abbrev main_cst_27 : Ref sig .tc := ⟨.hbm, 302, rfl⟩
abbrev main_v222 : Ref sig .tc := ⟨.hbm, 303, rfl⟩
abbrev main_v223 : Ref sig .tc := ⟨.hbm, 304, rfl⟩
abbrev main_c_28 : Ref sig .tc := ⟨.hbm, 305, rfl⟩
abbrev main_v224 : Ref sig .tc := ⟨.hbm, 306, rfl⟩
abbrev main_v225 : Ref sig .tc := ⟨.hbm, 307, rfl⟩
abbrev main_c_29 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_c_30 : Ref sig .tc := ⟨.hbm, 312, rfl⟩
abbrev main_v229 : Ref sig .tc := ⟨.hbm, 313, rfl⟩
abbrev main_v230 : Ref sig .tc := ⟨.hbm, 314, rfl⟩
abbrev main_c_31 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_cst_32 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_c_33 : Ref sig .tc := ⟨.hbm, 328, rfl⟩
abbrev main_v242 : Ref sig .tc := ⟨.hbm, 329, rfl⟩
abbrev main_cst_34 : Ref sig .tc := ⟨.hbm, 330, rfl⟩

abbrev nD : Nat := 1
abbrev τ : Topo := Topo.v7x

variable {F : FTy → Type} [FloatOps F]
-- ==== Proof.RegionHeld.lean ====
/-
  A pallas_call of a long @main as one segment over everything the core holds.

  Between two items the core holds every unscoped buffer at a valuation, its generator register at some state, and owes
  nothing. `heldRegion` is the segment that takes a call from one such valuation to the next: the library's `ofHeld`
  segment works over the call's own arrays, and the other unscoped buffers ride beside them.
-/
module

public import Idealize.ShloMosaic.Lib.Pipeline.FrameSuffix
public import Idealize.ShloMosaic.Lib.Pipeline.RegionArrays

@[expose] public section

noncomputable section

namespace Cert.Shared

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Idealize.SL.Sem.Labels} {P : Type} [Fintype P]

local notation "𝕄" => MT nD τ sig Unit Val ℕ (UR sig nD τ) ℕ

/-- Staging waits are assigned level zero on the TensorCores; nothing is ever owed, so no other level matters. -/
abbrev lev : GSem nD τ sig → Finset Unit := fun g => if g.1.2 = .tc then {()} else ∅
abbrev lv0 : GSem nD τ sig → Unit → ℕ := fun _ _ => 0

/-- What rides beside the buffers: the generator register at some state, and nothing owed. -/
abbrev riding (c : Dev nD) : sProp 𝕄 :=
  iprop((∃ r, prngReg c r) ∗ ∃ Wd, owes (c : Thread nD τ) (0 : CellTallies nD τ sig Unit) Wd)

/-- The core's state between two items, at the valuation `W`. -/
abbrev between (W : Dev nD → Valuation τ sig Val) (c : Dev nD) : sProp 𝕄 :=
  iprop(StableHlo.held (c : Thread nD τ) (ucRefs τ sig) (W c) ∗ riding c)

variable (pcs : P → PCfg sig Λ₀ Val) (a : (p : P) → (pcs p).Adm)
  (pdats : (p : P) → (c : Dev nD) → Dat τ Val Unit ℕ (UR sig nD τ) ℕ (pin pcs a p) c)
  (defs₀ : Defs nD τ sig Val Λ₀) (𝒱₀ : Variants) (p : P)

theorem level_cut : LevelCut pcs a () (lev (nD := nD) (τ := τ)) lv0 p (0 : Dev nD → CellTallies nD τ sig Unit) fun _ => 0 where
  hι c w s := by simp [lev]
  hιb c w s := le_rfl
  hD c g i h := absurd h (lt_irrefl 0)

/-- The unscoped buffers off the call's arrays. -/
abbrev offArrays : Finset (DevRef τ sig) := ucRefs τ sig \ arrRefs (pcs p).spec

/-- Held unscoped buffers split into the call's arrays and the others. -/
theorem held_split (kit : PLaunchFacts (nD := nD) (τ := τ) pcs p) (c : Dev nD) (W : Valuation τ sig Val) :
    (StableHlo.held (c : Thread nD τ) (ucRefs τ sig) W : sProp 𝕄)
      = iprop(StableHlo.held (c : Thread nD τ) (arrRefs (pcs p).spec) W ∗ StableHlo.held (c : Thread nD τ) (offArrays (τ := τ) pcs p) W) :=
  StableHlo.held_sub_split (c : Thread nD τ) (arrRefs_sub_ucRefs (pcs p).spec kit.win.arr_unscoped) W

/-- A call's segment, entered at `W` and left at `W'`: `W'` has the arrays at what the call leaves and agrees with `W`
    on every other unscoped buffer. -/
def heldRegion (kit : PLaunchFacts (nD := nD) (τ := τ) pcs p) (hK : (pcs p).pre.K = 0)
    (hbody : ∀ c, BodyObligationLoose (pdats p c) defs₀ 𝒱₀ () Set.univ)
    (howed : ∀ c t, (pdats p c).owed t = 0) (hrec : ∀ c, (pdats p c).recorded 0 = Set.univ)
    (hshare : ∀ c w, (pdats p c).share w = fullShare)
    (hin : ∀ c, iprop(scopedRest (pin pcs a p).spec c ∗ ∃ r, prngReg c r) ⊢ (pdats p c).Φ 0)
    (hout : ∀ c, (pdats p c).Φ (Fin.last (pin pcs a p).N) ⊢ iprop(scopedRest (pin pcs a p).spec c ∗ ∃ r, prngReg c r))
    (W W' : Dev nD → Valuation τ sig Val)
    (hW : ∀ c w, (pdats p c).arrAt w 0 = W c (Proc.devRef .tc (arrRef (pin pcs a p).spec w)))
    (hW' : ∀ c w, (pdats p c).arrAt w (pin pcs a p).N = W' c (Proc.devRef .tc (arrRef (pin pcs a p).spec w)))
    (hoff : ∀ c, ∀ b ∈ offArrays (τ := τ) pcs p, W' c b = W c b) :
    RegionSeg pcs a pdats () defs₀ 𝒱₀ (lev (nD := nD) (τ := τ)) lv0 p :=
  let s := RegionSeg.ofHeld pcs a pdats () defs₀ 𝒱₀ (lev (nD := nD) (τ := τ)) lv0 p 0
    (fun c => iprop(∃ r, prngReg c r)) (fun c => iprop(∃ r, prngReg c r)) kit hK hbody howed hrec hshare hin hout
    (fun _ => 0) (level_cut pcs a p) (fun c => StableHlo.held (c : Thread nD τ) (offArrays (τ := τ) pcs p) (W c)) W W' hW hW'
  { s with
    pre := between W
    post := between W'
    hentry := fun c => by
      have h := s.hentry c
      refine Idealize.SL.BI.BIBase.Entails.trans ?_ h
      show iprop((StableHlo.held (c : Thread nD τ) (ucRefs τ sig) (W c) ∗ riding c) ∗ _) ⊢ iprop((_ ∗ _ ∗ _ ∗ _) ∗ _)
      rw [held_split pcs p kit]
      iintro ⟨⟨⟨Ha, Hr⟩, Hp, HO⟩, Hx⟩
      isplitl [Ha Hr Hp HO]
      · isplitl [Ha]; · iexact Ha
        isplitl [Hp]; · iexact Hp
        isplitl [Hr]; · iexact Hr
        iexact HO
      iexact Hx
    hexit := fun c => by
      have h := s.hexit c
      refine Idealize.SL.BI.BIBase.Entails.trans h ?_
      show iprop(|={Set.univ}=> (_ ∗ _ ∗ _ ∗ _)) ⊢ iprop(|={Set.univ}=> (StableHlo.held (c : Thread nD τ) (ucRefs τ sig) (W' c) ∗ riding c))
      have e : (StableHlo.held (c : Thread nD τ) (offArrays (τ := τ) pcs p) (W c) : sProp 𝕄)
          = StableHlo.held (c : Thread nD τ) (offArrays (τ := τ) pcs p) (W' c) := by
        unfold StableHlo.held
        exact bigSep_congr fun b hb => by rw [hoff c b hb]
      rw [held_split pcs p kit, ← e]
      iintro H
      imod H with ⟨Ha, Hp, Hr, HO⟩
      imodintro
      isplitl [Ha Hr]
      · isplitl [Ha]; · iexact Ha
        iexact Hr
      isplitl [Hp]; · iexact Hp
      iexact HO }

end Cert.Shared

end
-- ==== Proof.Run.lean ====
/-
  The run of `KernelIdeal`: every weakly fair execution ends, with each unscoped buffer at the valuation `W21` of the launch
  memory and every semaphore counter at zero.

  `W0`, …, `W21` are the buffers' contents between the items of @main: a host stretch takes one valuation to
  `StableHlo.after` of it, a pallas_call overwrites its windows' arrays by what its pipeline leaves (`exit`).
-/
module

public import proofs.«01_k».proof.Proof.RegionHeld
public import proofs.«01_k».proof.Proof.Gen.KernelIdeal.Regions
public import proofs.«01_k».proof.Proof.Gen.Own.KernelIdeal.Calls

@[expose] public section

set_option maxRecDepth 16384

noncomputable section

namespace Cert.KernelIdeal.Run

open Cert.KernelIdeal Cert.KernelIdeal.Gen Cert.Shared
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [Named F]

local notation "𝕄" => MT nD τ sig Unit (Elt F) ℕ (UR sig nD τ) ℕ

/-- A valuation of the buffers on every core. -/
abbrev Vals (F : FTy → Type) : Type := Dev nD → Valuation τ sig (Elt F)

/-- The calls' proof data, call `p` entered at the valuation `E p`, nothing owed. -/
abbrev dats (E : Fin 13 → Vals F) : (p : Fin 13) → (c : Dev nD) → Dat τ (Elt F) Unit ℕ (UR sig nD τ) ℕ (Pipeline.pin (pcfgs (F := F)) adm p) c :=
  Own.pdats Variants.none (fun p c b => E p c (Proc.devRef .tc b)) (fun _ _ => 0) adm

/-- What call `p` leaves when entered at `W`: its arrays as its pipeline leaves them, every other buffer unchanged. -/
def exit (p : Fin 13) (W : Vals F) : Vals F := fun c =>
  Pipeline.withArrays (pcfgs (F := F) p).spec c (W c) fun w => (dats (fun _ => W) p c).arrAt w (Pipeline.pin (pcfgs (F := F)) adm p).N

/-- Call `p`'s data read only the valuation call `p` is entered at. -/
theorem dats_entry (E : Fin 13 → Vals F) (p : Fin 13) (c : Dev nD) : dats E p c = dats (fun _ => E p) p c := by
  fin_cases p <;> rfl

/-- The layout facts of every call's launch. -/
theorem kit : (p : Fin 13) → Pipeline.PLaunchFacts (nD := nD) (τ := τ) (pcfgs (F := F)) p
  | ⟨0, _⟩ => launch0.toP
  | ⟨1, _⟩ => launch1.toP
  | ⟨2, _⟩ => launch2.toP
  | ⟨3, _⟩ => launch3.toP
  | ⟨4, _⟩ => launch4.toP
  | ⟨5, _⟩ => launch5.toP
  | ⟨6, _⟩ => launch6.toP
  | ⟨7, _⟩ => launch7.toP
  | ⟨8, _⟩ => launch8.toP
  | ⟨9, _⟩ => launch9.toP
  | ⟨10, _⟩ => launch10.toP
  | ⟨11, _⟩ => launch11.toP
  | ⟨12, _⟩ => launch12.toP

theorem no_table (p : Fin 13) : (pcfgs (F := F) p).pre.K = 0 := by fin_cases p <;> rfl

/-- Every call's body meets its obligation. -/
theorem body : (E : Fin 13 → Vals F) → (p : Fin 13) → ∀ c,
    Pipeline.BodyObligationLoose (dats E p c) (defs₀ (F := F)) Variants.none () Set.univ
  | E, ⟨0, _⟩ => fun c => (Own.K0.body_obligation (U := UR sig nD τ) (Lvl := ℕ) Variants.none (fun c b => E 0 c (Proc.devRef .tc b)) (fun _ => 0) () c).loose
  | E, ⟨1, _⟩ => fun c => (Own.K1.body_obligation (U := UR sig nD τ) (Lvl := ℕ) Variants.none (fun c b => E 1 c (Proc.devRef .tc b)) (fun _ => 0) () c).loose
  | E, ⟨2, _⟩ => fun c => (Own.K2.body_obligation (U := UR sig nD τ) (Lvl := ℕ) Variants.none (fun c b => E 2 c (Proc.devRef .tc b)) (fun _ => 0) () c).loose
  | E, ⟨3, _⟩ => fun c => (Own.K3.body_obligation (U := UR sig nD τ) (Lvl := ℕ) Variants.none (fun c b => E 3 c (Proc.devRef .tc b)) (fun _ => 0) () c).loose
  | E, ⟨4, _⟩ => fun c => (Own.K4.body_obligation (U := UR sig nD τ) (Lvl := ℕ) Variants.none (fun c b => E 4 c (Proc.devRef .tc b)) (fun _ => 0) () c).loose
  | E, ⟨5, _⟩ => fun c => (Own.K5.body_obligation (U := UR sig nD τ) (Lvl := ℕ) Variants.none (fun c b => E 5 c (Proc.devRef .tc b)) (fun _ => 0) () c).loose
  | E, ⟨6, _⟩ => fun c => (Own.K6.body_obligation (U := UR sig nD τ) (Lvl := ℕ) Variants.none (fun c b => E 6 c (Proc.devRef .tc b)) (fun _ => 0) () c).loose
  | E, ⟨7, _⟩ => fun c => (Own.K7.body_obligation (U := UR sig nD τ) (Lvl := ℕ) Variants.none (fun c b => E 7 c (Proc.devRef .tc b)) (fun _ => 0) () c).loose
  | E, ⟨8, _⟩ => fun c => (Own.K8.body_obligation (U := UR sig nD τ) (Lvl := ℕ) Variants.none (fun c b => E 8 c (Proc.devRef .tc b)) (fun _ => 0) () c).loose
  | E, ⟨9, _⟩ => fun c => (Own.K9.body_obligation (U := UR sig nD τ) (Lvl := ℕ) Variants.none (fun c b => E 9 c (Proc.devRef .tc b)) (fun _ => 0) () c).loose
  | E, ⟨10, _⟩ => fun c => (Own.K10.body_obligation (U := UR sig nD τ) (Lvl := ℕ) Variants.none (fun c b => E 10 c (Proc.devRef .tc b)) (fun _ => 0) () c).loose
  | E, ⟨11, _⟩ => fun c => (Own.K11.body_obligation (U := UR sig nD τ) (Lvl := ℕ) Variants.none (fun c b => E 11 c (Proc.devRef .tc b)) (fun _ => 0) () c).loose
  | E, ⟨12, _⟩ => fun c => (Own.K12.body_obligation (U := UR sig nD τ) (Lvl := ℕ) Variants.none (fun c b => E 12 c (Proc.devRef .tc b)) (fun _ => 0) () c).loose

theorem owed (E : Fin 13 → Vals F) (p : Fin 13) (c : Dev nD) (t) : (dats E p c).owed t = 0 := by fin_cases p <;> rfl
theorem recorded (E : Fin 13 → Vals F) (p : Fin 13) (c : Dev nD) : (dats E p c).recorded 0 = Set.univ := by fin_cases p <;> rfl
theorem shares (E : Fin 13 → Vals F) (p : Fin 13) (c : Dev nD) (w) : (dats E p c).share w = fullShare :=
  (dats E p c).share_full (by fin_cases p <;> exact fun _ => rfl) w
theorem invariant (E : Fin 13 → Vals F) (p : Fin 13) (c : Dev nD) (t) :
    (dats E p c).Φ t = iprop(Pipeline.scopedRest (Pipeline.pin (pcfgs (F := F)) adm p).spec c ∗ ∃ r, prngReg c r) := by fin_cases p <;> rfl
theorem entered (E : Fin 13 → Vals F) (p : Fin 13) (c : Dev nD) (w) :
    (dats E p c).arrAt w 0 = E p c (Proc.devRef .tc (Pipeline.arrRef (Pipeline.pin (pcfgs (F := F)) adm p).spec w)) := by
  fin_cases p <;> rfl

/-- A window's array after its call. -/
theorem exit_arr (p : Fin 13) (W : Vals F) (c : Dev nD) (w) :
    exit p W c (Proc.devRef .tc (Pipeline.arrRef (pcfgs (F := F) p).spec w)) = (dats (fun _ => W) p c).arrAt w (Pipeline.pin (pcfgs (F := F)) adm p).N :=
  Pipeline.withArrays_arr _ (kit p).win.arr_inj c _ _ w

/-- A buffer that is no window's array is not changed by a call. -/
theorem exit_of_ne (p : Fin 13) (W : Vals F) (c : Dev nD) (b : Ref sig .tc) (hb : ∀ w, Pipeline.arrRef (pcfgs (F := F) p).spec w ≠ b) :
    exit p W c (Proc.devRef .tc b) = W c (Proc.devRef .tc b) := Pipeline.withArrays_of_ne _ c _ _ b hb

/-- A buffer that is no OUTPUT window's array is not changed by a call. -/
theorem exit_of (p : Fin 13) (W : Vals F) (c : Dev nD) (b : Ref sig .tc)
    (hb : ∀ w, Pipeline.arrRef (pcfgs (F := F) p).spec w = b → ((Pipeline.pin (pcfgs (F := F)) adm p).win w).isOut = false) :
    exit p W c (Proc.devRef .tc b) = W c (Proc.devRef .tc b) := by
  by_cases hw : ∃ w, Pipeline.arrRef (pcfgs (F := F) p).spec w = b
  · obtain ⟨w, rfl⟩ := hw
    rw [exit_arr, Pipeline.Dat.arrAt_in _ w (hb w rfl)]
    exact entered (fun _ => W) p c w
  · exact exit_of_ne p W c b fun w e => hw ⟨w, e⟩

variable (m : (ℓ : Loc nD τ sig) → Buf (Elt F) ℓ)

/-- The buffers at launch. -/
abbrev W0 : Vals F := fun c b => m (c, b)
def W1 : Vals F := fun c => StableHlo.after hostOps0 (W0 m c)
def W2 : Vals F := exit 0 (W1 m)
def W3 : Vals F := fun c => StableHlo.after hostOps1 (W2 m c)
def W4 : Vals F := exit 1 (W3 m)
def W5 : Vals F := exit 2 (W4 m)
def W6 : Vals F := exit 3 (W5 m)
def W7 : Vals F := exit 4 (W6 m)
def W8 : Vals F := fun c => StableHlo.after hostOps5 (W7 m c)
def W9 : Vals F := exit 5 (W8 m)
def W10 : Vals F := fun c => StableHlo.after hostOps6 (W9 m c)
def W11 : Vals F := exit 6 (W10 m)
def W12 : Vals F := fun c => StableHlo.after hostOps7 (W11 m c)
def W13 : Vals F := exit 7 (W12 m)
def W14 : Vals F := exit 8 (W13 m)
def W15 : Vals F := exit 9 (W14 m)
def W16 : Vals F := exit 10 (W15 m)
def W17 : Vals F := fun c => StableHlo.after hostOps11 (W16 m c)
def W18 : Vals F := exit 11 (W17 m)
def W19 : Vals F := fun c => StableHlo.after hostOps12 (W18 m c)
def W20 : Vals F := exit 12 (W19 m)
def W21 : Vals F := fun c => StableHlo.after hostOps13 (W20 m c)

/-- The valuation each call is entered at, -/
def entry : Fin 13 → Vals F
  | ⟨0, _⟩ => W1 m
  | ⟨1, _⟩ => W3 m
  | ⟨2, _⟩ => W4 m
  | ⟨3, _⟩ => W5 m
  | ⟨4, _⟩ => W6 m
  | ⟨5, _⟩ => W8 m
  | ⟨6, _⟩ => W10 m
  | ⟨7, _⟩ => W12 m
  | ⟨8, _⟩ => W13 m
  | ⟨9, _⟩ => W14 m
  | ⟨10, _⟩ => W15 m
  | ⟨11, _⟩ => W17 m
  | ⟨12, _⟩ => W19 m

/-- and each call as a segment. -/
def reg (p : Fin 13) : Pipeline.RegionSeg (pcfgs (F := F)) adm (dats (entry m)) () defs₀ Variants.none (lev (nD := nD) (τ := τ)) lv0 p :=
  heldRegion (pcfgs (F := F)) adm (dats (entry m)) defs₀ Variants.none p (kit p) (no_table p) (body (entry m) p) (owed (entry m) p)
    (recorded (entry m) p) (shares (entry m) p)
    (fun c => by rw [invariant]) (fun c => by rw [invariant])
    (entry m p) (exit p (entry m p)) (entered (entry m) p)
    (fun c w => by rw [dats_entry, ← exit_arr])
    (fun c b hb => by
      obtain ⟨hu, hn⟩ := Finset.mem_sdiff.mp hb
      obtain ⟨r, -, rfl⟩ := Finset.mem_map.mp (Finset.mem_filter.mp hu).1
      exact exit_of_ne p _ c r fun w e => hn (Finset.mem_map.mpr ⟨r, Finset.mem_image.mpr ⟨w, Finset.mem_univ _, e⟩, rfl⟩))

/-- A host stretch as a segment. -/
abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ Variants.none (lev (nD := nD) (τ := τ)) lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- @main as segments, in order. -/
abbrev segments : List (Pipeline.Seg (pcfgs (F := F)) adm (dats (entry m)) () defs₀ Variants.none (lev (nD := nD) (τ := τ)) lv0) :=
  [.host (hseg hostOps0 hostOps0_sub hostOps0_fresh (W0 m)),
   .region (reg m 0),
   .host (hseg hostOps1 hostOps1_sub hostOps1_fresh (W2 m)),
   .region (reg m 1),
   .region (reg m 2),
   .region (reg m 3),
   .region (reg m 4),
   .host (hseg hostOps5 hostOps5_sub hostOps5_fresh (W7 m)),
   .region (reg m 5),
   .host (hseg hostOps6 hostOps6_sub hostOps6_fresh (W9 m)),
   .region (reg m 6),
   .host (hseg hostOps7 hostOps7_sub hostOps7_fresh (W11 m)),
   .region (reg m 7),
   .region (reg m 8),
   .region (reg m 9),
   .region (reg m 10),
   .host (hseg hostOps11 hostOps11_sub hostOps11_fresh (W16 m)),
   .region (reg m 11),
   .host (hseg hostOps12 hostOps12_sub hostOps12_fresh (W18 m)),
   .region (reg m 12),
   .host (hseg hostOps13 hostOps13_sub hostOps13_fresh (W20 m))]

theorem main_run (c : Dev nD) : main (F := F) c = Pipeline.Seg.run (segments m) := (main_chain c).trans (by chain_rfl)

theorem uc_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run: the buffers end at `W21`, the counters at zero. -/
theorem run (ρ : Dev nD → PrngReg) : θ_run defs (onTc (τ := τ) (main (F := F))) ⟨m, fun _ => 0, ρ⟩ (fun r =>
      (∀ c : Dev nD, ∀ b ∈ Pipeline.ucRefs τ sig, r.2.mem (c, b) = W21 m c b) ∧ r.2.sem = fun _ => 0) :=
  Pipeline.θ_run_regions_kit_sems (pcfgs (F := F)) adm (dats (entry m)) () cellOf_inj emb₁ defs₀ Variants.none (lev (nD := nD) (τ := τ)) lv0 m ρ main (segments m)
    (fun c Q => by rw [main_run m c])
    (by simp only [segments, Pipeline.Seg.pipes_host, Pipeline.Seg.pipes_region, Pipeline.Seg.pipes_nil]; decide)
    (O₀ := 0) (hL := fun _ h => if_neg h) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W21 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m c) ∗ riding c) ⊢ _
      iintro ⟨Hh, Hp, HO⟩
      isplitl [Hh Hp]
      · isplitl [Hh]; · iexact Hh
        iexact Hp
      iexact HO⟩)
    (hinit := by
      refine Pipeline.initEach (lev (nD := nD) (τ := τ)) lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h hz => ⟨h, funext fun g => hz g (.inr (regions_no_unscoped g.2))⟩)

/-- The arguments' references. -/
abbrev args : List (Ref sig .tc) := [main_arg0, main_arg1, main_arg2, main_arg3, main_arg4, main_arg5, main_arg6, main_arg7, main_arg8, main_arg9, main_arg10, main_arg11, main_arg12]

/-! No call has an argument for an output. -/
theorem args_in0 : ∀ b ∈ args, ∀ w : Fin cfg0.W, Pipeline.arrRef spec0 w = b → (cfg0.win w).isOut = false :=
  ListAll.forall_mem_of_all_decide (by decide +kernel)
theorem args_in1 : ∀ b ∈ args, ∀ w : Fin cfg1.W, Pipeline.arrRef spec1 w = b → (cfg1.win w).isOut = false :=
  ListAll.forall_mem_of_all_decide (by decide +kernel)
theorem args_in2 : ∀ b ∈ args, ∀ w : Fin cfg2.W, Pipeline.arrRef spec2 w = b → (cfg2.win w).isOut = false :=
  ListAll.forall_mem_of_all_decide (by decide +kernel)
theorem args_in3 : ∀ b ∈ args, ∀ w : Fin cfg3.W, Pipeline.arrRef spec3 w = b → (cfg3.win w).isOut = false :=
  ListAll.forall_mem_of_all_decide (by decide +kernel)
theorem args_in4 : ∀ b ∈ args, ∀ w : Fin cfg4.W, Pipeline.arrRef spec4 w = b → (cfg4.win w).isOut = false :=
  ListAll.forall_mem_of_all_decide (by decide +kernel)
theorem args_in5 : ∀ b ∈ args, ∀ w : Fin cfg5.W, Pipeline.arrRef spec5 w = b → (cfg5.win w).isOut = false :=
  ListAll.forall_mem_of_all_decide (by decide +kernel)
theorem args_in6 : ∀ b ∈ args, ∀ w : Fin cfg6.W, Pipeline.arrRef spec6 w = b → (cfg6.win w).isOut = false :=
  ListAll.forall_mem_of_all_decide (by decide +kernel)
theorem args_in7 : ∀ b ∈ args, ∀ w : Fin cfg7.W, Pipeline.arrRef spec7 w = b → (cfg7.win w).isOut = false :=
  ListAll.forall_mem_of_all_decide (by decide +kernel)
theorem args_in8 : ∀ b ∈ args, ∀ w : Fin cfg8.W, Pipeline.arrRef spec8 w = b → (cfg8.win w).isOut = false :=
  ListAll.forall_mem_of_all_decide (by decide +kernel)
theorem args_in9 : ∀ b ∈ args, ∀ w : Fin cfg9.W, Pipeline.arrRef spec9 w = b → (cfg9.win w).isOut = false :=
  ListAll.forall_mem_of_all_decide (by decide +kernel)
theorem args_in10 : ∀ b ∈ args, ∀ w : Fin cfg10.W, Pipeline.arrRef spec10 w = b → (cfg10.win w).isOut = false :=
  ListAll.forall_mem_of_all_decide (by decide +kernel)
theorem args_in11 : ∀ b ∈ args, ∀ w : Fin cfg11.W, Pipeline.arrRef spec11 w = b → (cfg11.win w).isOut = false :=
  ListAll.forall_mem_of_all_decide (by decide +kernel)
theorem args_in12 : ∀ b ∈ args, ∀ w : Fin cfg12.W, Pipeline.arrRef spec12 w = b → (cfg12.win w).isOut = false :=
  ListAll.forall_mem_of_all_decide (by decide +kernel)

/-- No call has an argument for an output. -/
theorem args_in : ∀ p : Fin 13, ∀ b ∈ args, ∀ w, Pipeline.arrRef (pcfgs (F := F) p).spec w = b →
    ((Pipeline.pin (pcfgs (F := F)) adm p).win w).isOut = false
  | ⟨0, _⟩ => args_in0
  | ⟨1, _⟩ => args_in1
  | ⟨2, _⟩ => args_in2
  | ⟨3, _⟩ => args_in3
  | ⟨4, _⟩ => args_in4
  | ⟨5, _⟩ => args_in5
  | ⟨6, _⟩ => args_in6
  | ⟨7, _⟩ => args_in7
  | ⟨8, _⟩ => args_in8
  | ⟨9, _⟩ => args_in9
  | ⟨10, _⟩ => args_in10
  | ⟨11, _⟩ => args_in11
  | ⟨12, _⟩ => args_in12

theorem exit_args (p : Fin 13) (W : Vals F) (c : Dev nD) (b : Ref sig .tc) (hb : b ∈ args) :
    exit p W c (Proc.devRef .tc b) = W c (Proc.devRef .tc b) := exit_of p W c b (args_in p b hb)

theorem host_args0 : ∀ b ∈ args, b ∉ hostOps0_W := ListAll.forall_mem_of_all_decide (by decide +kernel)
theorem host_args1 : ∀ b ∈ args, b ∉ hostOps1_W := ListAll.forall_mem_of_all_decide (by decide +kernel)
theorem host_args5 : ∀ b ∈ args, b ∉ hostOps5_W := ListAll.forall_mem_of_all_decide (by decide +kernel)
theorem host_args6 : ∀ b ∈ args, b ∉ hostOps6_W := ListAll.forall_mem_of_all_decide (by decide +kernel)
theorem host_args7 : ∀ b ∈ args, b ∉ hostOps7_W := ListAll.forall_mem_of_all_decide (by decide +kernel)
theorem host_args11 : ∀ b ∈ args, b ∉ hostOps11_W := ListAll.forall_mem_of_all_decide (by decide +kernel)
theorem host_args12 : ∀ b ∈ args, b ∉ hostOps12_W := ListAll.forall_mem_of_all_decide (by decide +kernel)
theorem host_args13 : ∀ b ∈ args, b ∉ hostOps13_W := ListAll.forall_mem_of_all_decide (by decide +kernel)

/-! Each argument keeps its launch contents through the items: `argsJ` after item J−1. -/
theorem args0 (c : Dev nD) (b : Ref sig .tc) (hb : b ∈ args) : W0 m c (Proc.devRef .tc b) = m ((c : Thread nD τ).loc b) := rfl
theorem args1 (c : Dev nD) (b : Ref sig .tc) (hb : b ∈ args) : W1 m c (Proc.devRef .tc b) = m ((c : Thread nD τ).loc b) :=
  (StableHlo.after_of_writes_sub hostOps0 _ hostOps0_writes (host_args0 b hb)).trans (args0 m c b hb)
theorem args2 (c : Dev nD) (b : Ref sig .tc) (hb : b ∈ args) : W2 m c (Proc.devRef .tc b) = m ((c : Thread nD τ).loc b) :=
  (exit_args 0 (W1 m) c b hb).trans (args1 m c b hb)
theorem args3 (c : Dev nD) (b : Ref sig .tc) (hb : b ∈ args) : W3 m c (Proc.devRef .tc b) = m ((c : Thread nD τ).loc b) :=
  (StableHlo.after_of_writes_sub hostOps1 _ hostOps1_writes (host_args1 b hb)).trans (args2 m c b hb)
theorem args4 (c : Dev nD) (b : Ref sig .tc) (hb : b ∈ args) : W4 m c (Proc.devRef .tc b) = m ((c : Thread nD τ).loc b) :=
  (exit_args 1 (W3 m) c b hb).trans (args3 m c b hb)
theorem args5 (c : Dev nD) (b : Ref sig .tc) (hb : b ∈ args) : W5 m c (Proc.devRef .tc b) = m ((c : Thread nD τ).loc b) :=
  (exit_args 2 (W4 m) c b hb).trans (args4 m c b hb)
theorem args6 (c : Dev nD) (b : Ref sig .tc) (hb : b ∈ args) : W6 m c (Proc.devRef .tc b) = m ((c : Thread nD τ).loc b) :=
  (exit_args 3 (W5 m) c b hb).trans (args5 m c b hb)
theorem args7 (c : Dev nD) (b : Ref sig .tc) (hb : b ∈ args) : W7 m c (Proc.devRef .tc b) = m ((c : Thread nD τ).loc b) :=
  (exit_args 4 (W6 m) c b hb).trans (args6 m c b hb)
theorem args8 (c : Dev nD) (b : Ref sig .tc) (hb : b ∈ args) : W8 m c (Proc.devRef .tc b) = m ((c : Thread nD τ).loc b) :=
  (StableHlo.after_of_writes_sub hostOps5 _ hostOps5_writes (host_args5 b hb)).trans (args7 m c b hb)
theorem args9 (c : Dev nD) (b : Ref sig .tc) (hb : b ∈ args) : W9 m c (Proc.devRef .tc b) = m ((c : Thread nD τ).loc b) :=
  (exit_args 5 (W8 m) c b hb).trans (args8 m c b hb)
theorem args10 (c : Dev nD) (b : Ref sig .tc) (hb : b ∈ args) : W10 m c (Proc.devRef .tc b) = m ((c : Thread nD τ).loc b) :=
  (StableHlo.after_of_writes_sub hostOps6 _ hostOps6_writes (host_args6 b hb)).trans (args9 m c b hb)
theorem args11 (c : Dev nD) (b : Ref sig .tc) (hb : b ∈ args) : W11 m c (Proc.devRef .tc b) = m ((c : Thread nD τ).loc b) :=
  (exit_args 6 (W10 m) c b hb).trans (args10 m c b hb)
theorem args12 (c : Dev nD) (b : Ref sig .tc) (hb : b ∈ args) : W12 m c (Proc.devRef .tc b) = m ((c : Thread nD τ).loc b) :=
  (StableHlo.after_of_writes_sub hostOps7 _ hostOps7_writes (host_args7 b hb)).trans (args11 m c b hb)
theorem args13 (c : Dev nD) (b : Ref sig .tc) (hb : b ∈ args) : W13 m c (Proc.devRef .tc b) = m ((c : Thread nD τ).loc b) :=
  (exit_args 7 (W12 m) c b hb).trans (args12 m c b hb)
theorem args14 (c : Dev nD) (b : Ref sig .tc) (hb : b ∈ args) : W14 m c (Proc.devRef .tc b) = m ((c : Thread nD τ).loc b) :=
  (exit_args 8 (W13 m) c b hb).trans (args13 m c b hb)
theorem args15 (c : Dev nD) (b : Ref sig .tc) (hb : b ∈ args) : W15 m c (Proc.devRef .tc b) = m ((c : Thread nD τ).loc b) :=
  (exit_args 9 (W14 m) c b hb).trans (args14 m c b hb)
theorem args16 (c : Dev nD) (b : Ref sig .tc) (hb : b ∈ args) : W16 m c (Proc.devRef .tc b) = m ((c : Thread nD τ).loc b) :=
  (exit_args 10 (W15 m) c b hb).trans (args15 m c b hb)
theorem args17 (c : Dev nD) (b : Ref sig .tc) (hb : b ∈ args) : W17 m c (Proc.devRef .tc b) = m ((c : Thread nD τ).loc b) :=
  (StableHlo.after_of_writes_sub hostOps11 _ hostOps11_writes (host_args11 b hb)).trans (args16 m c b hb)
theorem args18 (c : Dev nD) (b : Ref sig .tc) (hb : b ∈ args) : W18 m c (Proc.devRef .tc b) = m ((c : Thread nD τ).loc b) :=
  (exit_args 11 (W17 m) c b hb).trans (args17 m c b hb)
theorem args19 (c : Dev nD) (b : Ref sig .tc) (hb : b ∈ args) : W19 m c (Proc.devRef .tc b) = m ((c : Thread nD τ).loc b) :=
  (StableHlo.after_of_writes_sub hostOps12 _ hostOps12_writes (host_args12 b hb)).trans (args18 m c b hb)
theorem args20 (c : Dev nD) (b : Ref sig .tc) (hb : b ∈ args) : W20 m c (Proc.devRef .tc b) = m ((c : Thread nD τ).loc b) :=
  (exit_args 12 (W19 m) c b hb).trans (args19 m c b hb)
theorem args21 (c : Dev nD) (b : Ref sig .tc) (hb : b ∈ args) : W21 m c (Proc.devRef .tc b) = m ((c : Thread nD τ).loc b) :=
  (StableHlo.after_of_writes_sub hostOps13 _ hostOps13_writes (host_args13 b hb)).trans (args20 m c b hb)

/-- An argument's buffer in a final state of the run. -/
theorem final_arg {s : (ℓ : Loc nD τ sig) → Buf (Elt F) ℓ} (h : ∀ c : Dev nD, ∀ b ∈ Pipeline.ucRefs τ sig, s (c, b) = W21 m c b) (c : Dev nD)
    (b : Ref sig .tc) (hb : b ∈ args) (hu : ¬ (Proc.devRef .tc b : DevRef τ sig).isScoped) :
    s ((c : Thread nD τ).loc b) = m ((c : Thread nD τ).loc b) := (h c _ (uc_mem b hu)).trans (args21 m c b hb)

/-- The frame: every execution ends with the arguments as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨final_arg m h.1 c main_arg0 (by decide) (by decide), final_arg m h.1 c main_arg1 (by decide) (by decide), final_arg m h.1 c main_arg2 (by decide) (by decide), final_arg m h.1 c main_arg3 (by decide) (by decide), final_arg m h.1 c main_arg4 (by decide) (by decide), final_arg m h.1 c main_arg5 (by decide) (by decide), final_arg m h.1 c main_arg6 (by decide) (by decide), final_arg m h.1 c main_arg7 (by decide) (by decide), final_arg m h.1 c main_arg8 (by decide) (by decide), final_arg m h.1 c main_arg9 (by decide) (by decide), final_arg m h.1 c main_arg10 (by decide) (by decide), final_arg m h.1 c main_arg11 (by decide) (by decide), final_arg m h.1 c main_arg12 (by decide) (by decide)⟩, h.2⟩) (run m ρ)

end Cert.KernelIdeal.Run

end
-- ==== Proof.Net.lean ====
/-
  The network over the reals: a root-mean-square norm, a linear map, the rotary embedding, causal attention, the
  gated feed-forward step and the layer made of them. Each program's values are proved to be these. Below the
  definitions, the extended-real forms in which a program computes them.
-/
module

public import Idealize.ShloMosaic.PureOps.Ideal
public import Idealize.ShloMosaic.PureOps.Ideal.Laws
public import Idealize.ShloMosaic.Lib.IdealHost
public import Idealize.ShloMosaic.Lib.Pointwise
public import Mathlib.Analysis.SpecialFunctions.Exp

@[expose] public section

noncomputable section

namespace Cert.Net

open Idealize.ShloMosaic

/-! ## The definitions -/

/-- The norm's addend, `1e-05` as a 32-bit float. -/
def eps : ℝ := 10995116 / 1099511627776

/-- A row divided by the root of its mean square. -/
def unit (x : Fin 768 → ℝ) (d : Fin 768) : ℝ := x d * (√((∑ e, x e * x e) / 768 + eps))⁻¹

/-- The same, each element times its weight. -/
def rms (x w : Fin 768 → ℝ) (d : Fin 768) : ℝ := unit x d * w d

/-- A row times a matrix. -/
def mv {K N : ℕ} (h : Fin K → ℝ) (W : Fin K → Fin N → ℝ) (j : Fin N) : ℝ := ∑ k, h k * W k j

/-- The head that column `j` belongs to, its position in the head, and back. -/
def hn (j : Fin 768) : Fin 12 := ⟨j / 64, by omega⟩
def hr (j : Fin 768) : Fin 64 := ⟨j % 64, by omega⟩
def hd (n : Fin 12) (d : Fin 64) : Fin 768 := ⟨n * 64 + d, by omega⟩

/-- Each head's halves swapped, the second one negated. -/
def rot (q : Fin 768 → ℝ) (j : Fin 768) : ℝ :=
  if h : (j : ℕ) % 64 < 32 then -q ⟨j + 32, by omega⟩ else q ⟨j - 32, by omega⟩

/-- The rotary embedding of a row at a position with these cosines and sines. -/
def rope (cos sin : Fin 64 → ℝ) (q : Fin 768 → ℝ) (j : Fin 768) : ℝ := q j * cos (hr j) + rot q j * sin (hr j)

/-- The score of a query row against a key row in head `n`. -/
def score (q k : Fin 768 → ℝ) (n : Fin 12) : ℝ := (∑ d, q (hd n d) * k (hd n d)) / 8

/-- Causal attention of the query row at position `l`: its keys and values are those at positions up to `l`. -/
def attn (q : Fin 768 → ℝ) (k v : Fin 2048 → Fin 768 → ℝ) (l : Fin 2048) (j : Fin 768) : ℝ :=
  (∑ i, if i ≤ l then Real.exp (score q (k i) (hn j)) * v i j else 0)
    / ∑ i, if i ≤ l then Real.exp (score q (k i) (hn j)) else 0

/-- The gate `t / (1 + e^(-t))`. -/
def silu (t : ℝ) : ℝ := t * (1 / (1 + Real.exp (-t)))

/-- A layer's weights, and the positions' cosines and sines. -/
structure Params where
  cos : Fin 2048 → Fin 64 → ℝ
  sin : Fin 2048 → Fin 64 → ℝ
  an : Fin 768 → ℝ
  wq : Fin 768 → Fin 768 → ℝ
  wk : Fin 768 → Fin 768 → ℝ
  wv : Fin 768 → Fin 768 → ℝ
  wo : Fin 768 → Fin 768 → ℝ
  fn : Fin 768 → ℝ
  w1 : Fin 768 → Fin 2048 → ℝ
  w2 : Fin 2048 → Fin 768 → ℝ
  w3 : Fin 768 → Fin 2048 → ℝ

/-- Activations: batch, position, column. -/
abbrev Act : Type := Fin 4 → Fin 2048 → Fin 768 → ℝ

variable (P : Params) (x : Act)

def hrow (b : Fin 4) (l : Fin 2048) : Fin 768 → ℝ := rms (x b l) P.an
def qrow (b : Fin 4) (l : Fin 2048) : Fin 768 → ℝ := rope (P.cos l) (P.sin l) (mv (hrow P x b l) P.wq)
def krow (b : Fin 4) (l : Fin 2048) : Fin 768 → ℝ := rope (P.cos l) (P.sin l) (mv (hrow P x b l) P.wk)
def vrow (b : Fin 4) (l : Fin 2048) : Fin 768 → ℝ := mv (hrow P x b l) P.wv
def orow (b : Fin 4) (l : Fin 2048) : Fin 768 → ℝ := attn (qrow P x b l) (krow P x b) (vrow P x b) l

/-- The feed-forward half of a layer, from the row `x` and the attention's row `o`: the row after attention, -/
def mid (x o : Fin 768 → ℝ) (j : Fin 768) : ℝ := x j + mv o P.wo j
/-- the gated row, -/
def gate (x2 : Fin 768 → ℝ) (i : Fin 2048) : ℝ := silu (mv (rms x2 P.fn) P.w1 i) * mv (rms x2 P.fn) P.w3 i
/-- and the row out. -/
def ffn (x o : Fin 768 → ℝ) (j : Fin 768) : ℝ := mid P x o j + mv (gate P (mid P x o)) P.w2 j

/-- The whole layer. -/
def layer : Act := fun b l => ffn P (x b l) (orow P x b l)

/-! ## Facts over the reals -/

theorem eps_pos : 0 < eps := by unfold eps; norm_num

theorem unit_pos (x : Fin 768 → ℝ) : 0 < (∑ e, x e * x e) / 768 + eps :=
  add_pos_of_nonneg_of_pos (div_nonneg (Finset.sum_nonneg fun e _ => mul_self_nonneg _) (by norm_num)) eps_pos

theorem hd_hn_hr (j : Fin 768) : hd (hn j) (hr j) = j := Fin.ext (by simp only [hd, hn, hr]; omega)
theorem hn_hd (n : Fin 12) (d : Fin 64) : hn (hd n d) = n := Fin.ext (by simp only [hd, hn]; omega)
theorem hr_hd (n : Fin 12) (d : Fin 64) : hr (hd n d) = d := Fin.ext (by simp only [hd, hr]; omega)

/-- Rotating the matrix's rows rotates the product. -/
theorem mv_rot (h : Fin 768 → ℝ) (W : Fin 768 → Fin 768 → ℝ) (j : Fin 768) :
    mv h (fun k => rot (W k)) j = rot (mv h W) j := by
  unfold mv rot
  by_cases c : (j : ℕ) % 64 < 32
  · simp only [dif_pos c, mul_neg, Finset.sum_neg_distrib]
  · simp only [dif_neg c]

/-- The weights' sum in `attn` is positive. -/
theorem den_pos (q : Fin 768 → ℝ) (k : Fin 2048 → Fin 768 → ℝ) (l : Fin 2048) (n : Fin 12) :
    0 < ∑ i, if i ≤ l then Real.exp (score q (k i) n) else 0 := by
  refine Finset.sum_pos' (fun i _ => ?_) ⟨l, Finset.mem_univ _, ?_⟩
  · split
    · exact (Real.exp_pos _).le
    · exact le_rfl
  · rw [if_pos le_rfl]; exact Real.exp_pos _

/-! ## The extended-real forms -/

theorem coe_sum {ι : Type*} [Fintype ι] (f : ι → ℝ) : (∑ i, (f i : EReal)) = ((∑ i, f i : ℝ) : EReal) := by
  classical
  refine Finset.induction_on (Finset.univ : Finset ι) (by simp) ?_
  intro a s ha ih
  rw [Finset.sum_insert ha, Finset.sum_insert ha, EReal.coe_add, ih]

theorem coe_mv {K N : ℕ} (h : Fin K → ℝ) (W : Fin K → Fin N → ℝ) (j : Fin N) :
    (∑ k, (h k : EReal) * (W k j : EReal)) = (mv h W j : EReal) := by
  simp only [← EReal.coe_mul, coe_sum, mv]

theorem coe_div (a : ℝ) {b : ℝ} (hb : b ≠ 0) : Ideal.div (a : EReal) (b : EReal) = ((a / b : ℝ) : EReal) := by
  rw [Ideal.div_coe hb, ← EReal.coe_mul, mul_one_div]

theorem coe_rsqrt {r : ℝ} (hr : 0 < r) : Ideal.rsqrt (r : EReal) = (((√r)⁻¹ : ℝ) : EReal) := by
  rw [Ideal.rsqrt_coe, if_neg hr.le.not_gt, if_neg hr.ne']

theorem w_768 : Ideal.ofBits .f32 0x44400000#32 = ((768 : ℝ) : EReal) := by
  simp [Ideal.ofBits, Ideal.ieee, -EReal.coe_mul]; norm_num
theorem w_8 : Ideal.ofBits .f32 0x41000000#32 = ((8 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_eps : Ideal.ofBits .f32 0x3727C5AC#32 = (eps : EReal) := by
  simp [Ideal.ofBits, Ideal.ieee, -EReal.coe_mul, eps]; norm_num
theorem w_bot : Ideal.ofBits .f32 0xFF800000#32 = ⊥ := by
  simp [Ideal.ofBits, Ideal.ieee]

/-- A norm's element as both programs compute it, before the weight. -/
theorem coe_unit (x : Fin 768 → ℝ) (d : Fin 768) :
    (x d : EReal) * Ideal.rsqrt (Ideal.div (∑ e, (x e : EReal) * (x e : EReal)) (Ideal.ofBits .f32 0x44400000#32)
      + Ideal.ofBits .f32 0x3727C5AC#32) = (unit x d : EReal) := by
  simp only [← EReal.coe_mul, coe_sum, w_768, w_eps, coe_div _ (show (768 : ℝ) ≠ 0 by norm_num), ← EReal.coe_add,
    coe_rsqrt (unit_pos x), unit]

/-- The same with the weight. -/
theorem coe_rms (x w : Fin 768 → ℝ) (d : Fin 768) :
    (x d : EReal) * Ideal.rsqrt (Ideal.div (∑ e, (x e : EReal) * (x e : EReal)) (Ideal.ofBits .f32 0x44400000#32)
      + Ideal.ofBits .f32 0x3727C5AC#32) * (w d : EReal) = (rms x w d : EReal) := by
  rw [coe_unit, ← EReal.coe_mul]; rfl

theorem coe_gate (t u : ℝ) : (t : EReal) * Ideal.logistic (t : EReal) * (u : EReal) = ((silu t * u : ℝ) : EReal) := by
  rw [Ideal.logistic_coe, silu, EReal.coe_mul, EReal.coe_mul, one_div]

/-- A masked weight: the mask adds `-∞` outside its region. -/
theorem coe_masked (p : Prop) [Decidable p] (s : ℝ) :
    Ideal.exp ((s : EReal) + if p then 0 else ⊥) = ((if p then Real.exp s else 0 : ℝ) : EReal) := by
  split
  · rw [add_zero, Ideal.exp_coe]
  · rw [EReal.add_bot, Ideal.exp_bot]; rfl

/-! ## Attention from a block of queries: the keys before the block whole, those of the block masked -/

theorem score_eighth (q k : Fin 768 → ℝ) (n : Fin 12) : ∑ d, q (hd n d) / 8 * k (hd n d) = score q k n := by
  rw [score, Finset.sum_div]; exact Finset.sum_congr rfl fun d _ => by ring

/-- The token `x` places after token `P`, and token `x` among the first `P`. -/
def tok (P : ℕ) {L : ℕ} (h : P + L ≤ 2048) (x : Fin L) : Fin 2048 := ⟨P + x, by omega⟩
def pre {P : ℕ} (h : P ≤ 2048) (x : Fin P) : Fin 2048 := ⟨x, by omega⟩

theorem tok_zero {L : ℕ} (h : 0 + L ≤ 2048) (h' : L ≤ 2048) (x : Fin L) : tok 0 h x = pre h' x := Fin.ext (zero_add _)

/-- The sum over positions up to `P + i` is that over the `P` earlier ones and the masked one over the block at `P`. -/
theorem sum_split (P : ℕ) (hP : P + 512 ≤ 2048) (hB : P ≤ 2048) (i : Fin 512) (f : Fin 2048 → ℝ) :
    (∑ t : Fin 2048, if t ≤ tok P hP i then f t else 0)
      = (∑ x : Fin 512, if x ≤ i then f (tok P hP x) else 0) + ∑ p : Fin P, f (pre hB p) := by
  let g : ℕ → ℝ := fun n => if n ≤ P + i then (if h : n < 2048 then f ⟨n, h⟩ else 0) else 0
  have hg : ∀ t : Fin 2048, (if t ≤ tok P hP i then f t else 0) = g t := fun t => by
    simp only [g, tok, Fin.le_def, dif_pos t.2]
  have h0 : ∀ n, P + 512 ≤ n → g n = 0 := fun n hn => if_neg (by omega)
  rw [Finset.sum_congr rfl fun t _ => hg t, Fin.sum_univ_eq_sum_range g 2048,
    ← Finset.sum_subset (Finset.range_subset_range.mpr hP) fun n _ hn => h0 n (by simpa using hn), Finset.sum_range_add,
    add_comm]
  congr 1
  · rw [← Fin.sum_univ_eq_sum_range (fun n => g (P + n)) 512]
    refine Finset.sum_congr rfl fun x _ => ?_
    simp only [g, tok, Fin.le_def, add_le_add_iff_left, dif_pos (show P + (x : ℕ) < 2048 by omega)]
  · rw [← Fin.sum_univ_eq_sum_range g P]
    refine Finset.sum_congr rfl fun p _ => ?_
    simp only [g, pre, dif_pos (show (p : ℕ) < 2048 by omega), if_pos (show (p : ℕ) ≤ P + i by omega)]

section Head

variable {q : Fin 768 → ℝ} {k v : Fin 2048 → Fin 768 → ℝ} {n : Fin 12} {j : Fin 64} {i : Fin 512}
  {qE : Fin 64 → EReal} (hq : ∀ d, qE d = ((q (hd n d) / 8 : ℝ) : EReal))

include hq in
/-- A weight of the block, masked, and one before it. -/
theorem weight {t : Fin 2048} {kE : Fin 64 → EReal} (hk : ∀ d, kE d = (k t (hd n d) : EReal)) (p : Prop) [Decidable p] :
    Ideal.exp ((∑ d, qE d * kE d) + if p then 0 else ⊥) = ((if p then Real.exp (score q (k t) n) else 0 : ℝ) : EReal) := by
  simp only [hq, hk, ← EReal.coe_mul, coe_sum, score_eighth, coe_masked]

include hq in
theorem weight' {t : Fin 2048} {kE : Fin 64 → EReal} (hk : ∀ d, kE d = (k t (hd n d) : EReal)) :
    Ideal.exp (∑ d, qE d * kE d) = (Real.exp (score q (k t) n) : EReal) := by
  simp only [hq, hk, ← EReal.coe_mul, coe_sum, score_eighth, Ideal.exp_coe]

variable {P : ℕ} {hP : P + 512 ≤ 2048} {hB : P ≤ 2048} {kd : Fin 512 → Fin 64 → EReal} {vd : Fin 512 → EReal}
  (hkd : ∀ x d, kd x d = (k (tok P hP x) (hd n d) : EReal)) (hvd : ∀ x, vd x = (v (tok P hP x) (hd n j) : EReal))
  {kp : Fin P → Fin 64 → EReal} {vp : Fin P → EReal}
  (hkp : ∀ x d, kp x d = (k (pre hB x) (hd n d) : EReal)) (hvp : ∀ x, vp x = (v (pre hB x) (hd n j) : EReal))

include hq hkd hvd hkp hvp in
/-- A head's element as the kernel computes it in the block of queries at `P`. -/
theorem head : Ideal.div
      ((∑ x, Ideal.exp ((∑ d, qE d * kd x d) + if x ≤ i then 0 else ⊥) * vd x) + ∑ x, Ideal.exp (∑ d, qE d * kp x d) * vp x)
      ((∑ x, Ideal.exp ((∑ d, qE d * kd x d) + if x ≤ i then 0 else ⊥)) + ∑ x, Ideal.exp (∑ d, qE d * kp x d))
    = (attn q k v (tok P hP i) (hd n j) : EReal) := by
  have hd0 := den_pos q k (tok P hP i) n
  rw [sum_split P hP hB i fun t => Real.exp (score q (k t) n)] at hd0
  simp only [weight hq (hkd _), weight' hq (hkp _), hvd, hvp, ← EReal.coe_mul, coe_sum, ← EReal.coe_add, coe_div _ hd0.ne']
  rw [attn, hn_hd, sum_split P hP hB i fun t => Real.exp (score q (k t) n) * v t (hd n j),
    sum_split P hP hB i fun t => Real.exp (score q (k t) n)]
  simp only [ite_mul, zero_mul]

end Head

section FirstHead

variable {hB : 512 ≤ 2048} {q : Fin 768 → ℝ} {k v : Fin 2048 → Fin 768 → ℝ} {n : Fin 12} {j : Fin 64} {i : Fin 512}
  {qE : Fin 64 → EReal} (hq : ∀ d, qE d = ((q (hd n d) / 8 : ℝ) : EReal)) {kd : Fin 512 → Fin 64 → EReal} {vd : Fin 512 → EReal}
  (hkd : ∀ x d, kd x d = (k (pre hB x) (hd n d) : EReal)) (hvd : ∀ x, vd x = (v (pre hB x) (hd n j) : EReal))

include hq hkd hvd in
/-- The same in the first block, which no keys precede. -/
theorem head_first : Ideal.div (∑ x, Ideal.exp ((∑ d, qE d * kd x d) + if x ≤ i then 0 else ⊥) * vd x)
      (∑ x, Ideal.exp ((∑ d, qE d * kd x d) + if x ≤ i then 0 else ⊥))
    = (attn q k v (pre hB i) (hd n j) : EReal) := by
  have e : ∀ x : Fin 512, tok 0 hB x = pre hB x := tok_zero hB hB
  have h := head (P := 0) (i := i) (k := k) (v := v) (j := j) (hP := hB) (hB := Nat.zero_le _) hq (kd := kd) (vd := vd)
    (by simpa only [e] using hkd) (by simpa only [e] using hvd)
    (kp := fun x => x.elim0) (vp := fun x => x.elim0) (fun x => x.elim0) (fun x => x.elim0)
  simpa only [e, Finset.univ_eq_empty, Finset.sum_empty, add_zero] using h

end FirstHead

end Cert.Net
-- ==== Proof.Blocks.lean ====
/-
  What one grid point of each pallas_call computes over the extended reals, at blocks of real numbers: the payloads of
  its stores, at an index, are the network's functions of the blocks' rows.
-/
module

public import proofs.«01_k».proof.Proof.Net
public import proofs.«01_k».proof.Proof.Gen.KernelIdeal.Skeleton
public import Idealize.ShloMosaic.Lib.WordCmp

@[expose] public section

noncomputable section

namespace Cert.KernelIdeal.Blocks

open Cert.KernelIdeal Cert.KernelIdeal.Gen
open Idealize.ShloMosaic Cert.Net

/-! ## Queries, keys and values -/

section Qkv

variable {v0 : Vec Ideal S1024x768 .f32} {v2 : Vec Ideal S1x768 .f32} {v17 : Vec Ideal S768x3840 .bf16}
  {v20 v21 : Vec Ideal S1024x768 .f32} {i : Fin 1024} {x w : Fin 768 → ℝ}

/-- A column of the product of the normed row with the joined weights. -/
theorem product (hx : ∀ d, v0 (ix2 i d) = (x d : EReal)) (hw : ∀ d, v2 (ix2 0 d) = (w d : EReal)) (j : Fin 3840)
    {W : Fin 768 → Fin 768 → ℝ} {j' : Fin 768} (hW : ∀ k, v17 (ix2 k j) = (W k j' : EReal)) :
    k0_pay2 v0 v2 v17 (ix2 i j) = (mv (rms x w) W j' : EReal) := by
  pointwise [k0_pay2]
  simp only [hx, hw, hW, coe_rms, coe_mv]

variable (hx : ∀ d, v0 (ix2 i d) = (x d : EReal)) (hw : ∀ d, v2 (ix2 0 d) = (w d : EReal)) {cos sin : Fin 64 → ℝ}
  (hc : ∀ d, v20 (ix2 i d) = (cos (hr d) : EReal)) (hs : ∀ d, v21 (ix2 i d) = (sin (hr d) : EReal))
  {W : Fin 768 → Fin 768 → ℝ} (j : Fin 768)

include hx hw hc hs

/-- The queries, already an eighth. -/
theorem queries (h0 : ∀ k (d : Fin 768), v17 (ix2 k ⟨d, by omega⟩) = (W k d : EReal))
    (h1 : ∀ k (d : Fin 768), v17 (ix2 k ⟨768 + d, by omega⟩) = (rot (W k) d : EReal)) :
    k0_pay3 v0 v2 v17 v20 v21 (ix2 i j) = ((rope cos sin (mv (rms x w) W) j / 8 : ℝ) : EReal) := by
  pointwise [k0_pay3]
  rw [product hx hw _ fun k => h0 k j, product (W := fun k => rot (W k)) hx hw _ fun k => h1 k j, hc, hs, mv_rot, w_eighth]
  simp only [← EReal.coe_mul, ← EReal.coe_add, rope, mul_one_div]

/-- The keys. -/
theorem keys (h0 : ∀ k (d : Fin 768), v17 (ix2 k ⟨1536 + d, by omega⟩) = (W k d : EReal))
    (h1 : ∀ k (d : Fin 768), v17 (ix2 k ⟨2304 + d, by omega⟩) = (rot (W k) d : EReal)) :
    k0_pay4 v0 v2 v17 v20 v21 (ix2 i j) = (rope cos sin (mv (rms x w) W) j : EReal) := by
  pointwise [k0_pay4]
  rw [product hx hw _ fun k => h0 k j, product (W := fun k => rot (W k)) hx hw _ fun k => h1 k j, hc, hs, mv_rot]
  simp only [← EReal.coe_mul, ← EReal.coe_add, rope]

omit hc hs in
/-- The values. -/
theorem values (h0 : ∀ k (d : Fin 768), v17 (ix2 k ⟨3072 + d, by omega⟩) = (W k d : EReal)) :
    k0_pay1 (k0_pay2 v0 v2 v17) (ix2 i j) = (mv (rms x w) W j : EReal) := by
  pointwise [k0_pay1]
  rw [product hx hw _ fun k => h0 k j]

end Qkv

/-! ## The feed-forward step -/

/-- The row out of the second half of a layer. -/
theorem feed {v0 : Vec Ideal S1024x768 .f32} {v2 : Vec Ideal S1024x768 .bf16} {v4 : Vec Ideal S768x768 .bf16}
    {v8 : Vec Ideal S1x768 .f32} {v23 : Vec Ideal S768x4096 .bf16} {v32 : Vec Ideal S2048x768 .bf16}
    (P : Params) {i : Fin 1024} {x o : Fin 768 → ℝ}
    (hx : ∀ d, v0 (ix2 i d) = (x d : EReal)) (ho : ∀ d, v2 (ix2 i d) = (o d : EReal))
    (hwo : ∀ k d, v4 (ix2 k d) = (P.wo k d : EReal)) (hfn : ∀ d, v8 (ix2 0 d) = (P.fn d : EReal))
    (hw1 : ∀ k (d : Fin 2048), v23 (ix2 k ⟨d, by omega⟩) = (P.w1 k d : EReal))
    (hw3 : ∀ k (d : Fin 2048), v23 (ix2 k ⟨2048 + d, by omega⟩) = (P.w3 k d : EReal))
    (hw2 : ∀ k d, v32 (ix2 k d) = (P.w2 k d : EReal)) (j : Fin 768) :
    k5_pay1 v0 v2 v4 v8 v23 v32 (ix2 i j) = (ffn P x o j : EReal) := by
  have hmid : ∀ d, (x d : EReal) + (mv o P.wo d : EReal) = (mid P x o d : EReal) := fun d => (EReal.coe_add _ _).symm
  pointwise [k5_pay1]
  simp only [hx, ho, hwo, hfn, hw1, hw3, hw2, coe_mv, hmid, coe_rms, coe_gate]
  rw [← EReal.coe_add]; rfl

/-! ## The last norm -/

/-- A row of the last norm, its weight any extended real. -/
theorem last {v0 : Vec Ideal S1024x768 .f32} {v2 : Vec Ideal S1x768 .f32} {i : Fin 1024} {x : Fin 768 → ℝ}
    (hx : ∀ d, v0 (ix2 i d) = (x d : EReal)) (j : Fin 768) :
    k12_pay1 v0 v2 (ix2 i j) = (unit x j : EReal) * v2 (ix2 0 j) := by
  pointwise [k12_pay1]
  simp only [hx, coe_unit]

end Cert.KernelIdeal.Blocks
-- ==== Proof.Arrays.lean ====
/-
  Activations as the arrays that hold them: the rows of all batches one after the other, the batches apart, or a
  quarter of the positions.
-/
module

public import proofs.«01_k».proof.Proof.Run
public import proofs.«01_k».proof.Proof.Net
public import Idealize.ShloMosaic.Lib.Pipeline.ValueKit

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-- A row's batch and position. -/
def rb (r : Fin 8192) : Fin 4 := ⟨r / 2048, by omega⟩
def rl (r : Fin 8192) : Fin 2048 := ⟨r % 2048, by omega⟩

/-- Activations, rows of all batches one after the other. -/
def flat (f : Act) : S8192x768.Idx → EReal := fun r => (f (rb (r 0)) (rl (r 0)) (r 1) : EReal)

theorem flat_at {f : Act} {i : S8192x768.Idx} {b : Fin 4} {l : Fin 2048} {j : Fin 768} (h0 : (i 0 : ℕ) = b * 2048 + l)
    (h1 : (i 1 : ℕ) = j) : flat f i = (f b l j : EReal) := by
  have e0 : rb (i 0) = b := Fin.ext (by simp only [rb]; omega)
  have e1 : rl (i 0) = l := Fin.ext (by simp only [rl]; omega)
  have e2 : (i 1 : Fin 768) = j := Fin.ext h1
  simp only [flat, e0, e1, e2]

/-- The same with the batches apart, -/
def cube (f : Act) : S4x2048x768.Idx → EReal := fun r => (f (r 0) (r 1) (r 2) : EReal)

/-- and the rows from position `p` on of such. -/
def part (p : ℕ) (hp : p + 512 ≤ 2048) (f : Act) : S4x512x768.Idx → EReal := fun r => (f (r 0) (tok p hp (r 1)) (r 2) : EReal)

theorem cube_at {f : Act} {i : S4x2048x768.Idx} {b : Fin 4} {l : Fin 2048} {j : Fin 768} (h0 : (i 0 : ℕ) = b) (h1 : (i 1 : ℕ) = l)
    (h2 : (i 2 : ℕ) = j) : cube f i = (f b l j : EReal) := by
  have e0 : (i 0 : Fin 4) = b := Fin.ext h0
  have e1 : (i 1 : Fin 2048) = l := Fin.ext h1
  have e2 : (i 2 : Fin 768) = j := Fin.ext h2
  simp only [cube, e0, e1, e2]

/-- A valuation's device buffers. -/
abbrev V (W : Vals Ideal) (c : Dev nD) (b : Ref sig .tc) : Buf (Elt Ideal) ((c : Thread nD τ).loc b) := W c (Proc.devRef .tc b)

end Cert.KernelIdeal.Regions

end
-- ==== Proof.Qkv.lean ====
/-
  What the two projection calls leave in their arrays: an eighth of the rotated queries, the rotated keys and the
  values of every row, given the rows, the norm's weights, the joined weights and the cosines and sines.
-/
module

public import proofs.«01_k».proof.Proof.Run
public import proofs.«01_k».proof.Proof.Blocks
public import proofs.«01_k».proof.Proof.Arrays

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-- The joined weights: queries, rotated queries, keys, rotated keys, values. -/
structure Joined (X : S768x3840.Idx → EReal) (P : Params) : Prop where
  q : ∀ k (d : Fin 768), X (ix2 k ⟨d, by omega⟩) = (P.wq k d : EReal)
  q' : ∀ k (d : Fin 768), X (ix2 k ⟨768 + d, by omega⟩) = (rot (P.wq k) d : EReal)
  k : ∀ k (d : Fin 768), X (ix2 k ⟨1536 + d, by omega⟩) = (P.wk k d : EReal)
  k' : ∀ k (d : Fin 768), X (ix2 k ⟨2304 + d, by omega⟩) = (rot (P.wk k) d : EReal)
  v : ∀ k (d : Fin 768), X (ix2 k ⟨3072 + d, by omega⟩) = (P.wv k d : EReal)

variable (W : Vals Ideal) (c : Dev nD) {P : Params} {x : Act}

/-! ## Layer 1 -/

theorem idx0 : ∀ t : Fin cfg0.N, win0_0.index t = ![(grid0.coords t 1).val * 2 + (grid0.coords t 0).val, 0] ∧ win0_1.index t = ![0, 0] ∧
    win0_2.index t = ![0, 0] ∧ win0_3.index t = ![(grid0.coords t 0).val, 0] ∧ win0_4.index t = ![(grid0.coords t 0).val, 0] ∧
    win0_5.index t = ![(grid0.coords t 1).val * 2 + (grid0.coords t 0).val, 0] ∧
    win0_6.index t = ![(grid0.coords t 1).val * 2 + (grid0.coords t 0).val, 0] ∧
    win0_7.index t = ![(grid0.coords t 1).val * 2 + (grid0.coords t 0).val, 0] :=
  (by decide +kernel : ∀ t : Fin grid0.N, _)

/-- Call 0's data. -/
abbrev D0 := Own.K0.dat (F := Ideal) (Ix := Unit) (U := UR sig nD τ) (Lvl := ℕ) Variants.none (V W) (fun _ => 0) c

/-- A batch and position that row `i` of point `t`'s block is. -/
def pb (t : Fin cfg0.N) : Fin 4 := ⟨grid0.coords t 1, (grid0.coords t 1).isLt⟩
def pl (t : Fin cfg0.N) (i : Fin 1024) : Fin 2048 :=
  ⟨grid0.coords t 0 * 1024 + i, by have : (grid0.coords t 0 : ℕ) < 2 := (grid0.coords t 0).isLt; omega⟩

theorem at0 (t : Fin cfg0.N) (i : Fin 1024) : ((grid0.coords t 1 : ℕ) * 2 + grid0.coords t 0) * 1024 + i = pb t * 2048 + pl t i := by
  simp only [pb, pl]; omega

theorem blk0_x (hx : W c (Proc.devRef .tc main_v6) = flat x) (t : Fin cfg0.N) (i : Fin 1024) (d : Fin 768) :
    Own.K0.iblk (V W) c 0 t (ix2 i d) = (x (pb t) (pl t i) d : EReal) := by
  blk_simp [Own.K0.iblk]
  refine (congrFun hx _).trans (flat_at ?_ ?_)
  · blk_simp [idx0 t]; exact at0 t i
  · blk_simp [idx0 t]

theorem blk0_n (t : Fin cfg0.N) (i : Fin 1) (d : Fin 768) :
    Own.K0.iblk (V W) c 1 t (ix2 i d) = W c (Proc.devRef .tc main_v29) (ix2 i d) := by blk_ext [Own.K0.iblk, V, idx0 t]

theorem blk0_w (t : Fin cfg0.N) (i : Fin 768) (d : Fin 3840) :
    Own.K0.iblk (V W) c 2 t (ix2 i d) = W c (Proc.devRef .tc main_v26) (ix2 i d) := by blk_ext [Own.K0.iblk, V, idx0 t]

theorem blk0_c (t : Fin cfg0.N) (i : Fin 1024) (d : Fin 768) :
    Own.K0.iblk (V W) c 3 t (ix2 i d) = W c (Proc.devRef .tc main_v2) (ix2 (pl t i) d) := by blk_ext [Own.K0.iblk, V, idx0 t, pl]

theorem blk0_s (t : Fin cfg0.N) (i : Fin 1024) (d : Fin 768) :
    Own.K0.iblk (V W) c 4 t (ix2 i d) = W c (Proc.devRef .tc main_v5) (ix2 (pl t i) d) := by blk_ext [Own.K0.iblk, V, idx0 t, pl]

/-- Where an element of a row block sits. -/
theorem flat0 (f : Act) (t : Fin cfg0.N) (i : Fin 1024) (j : Fin 768) {z : S8192x768.Idx} (h0 : (z 0 : ℕ) = ((grid0.coords t 1 : ℕ) * 2 + grid0.coords t 0) * 1024 + i)
    (h1 : (z 1 : ℕ) = j) : (f (pb t) (pl t i) j : EReal) = flat f z := (flat_at (h0.trans (at0 t i)) h1).symm

section
variable (hx : W c (Proc.devRef .tc main_v6) = flat x) (hn : ∀ d, W c (Proc.devRef .tc main_v29) (ix2 0 d) = (P.an d : EReal))
  (hW : Joined (W c (Proc.devRef .tc main_v26)) P)
  (hc : ∀ l d, W c (Proc.devRef .tc main_v2) (ix2 l d) = (P.cos l (hr d) : EReal))
  (hs : ∀ l d, W c (Proc.devRef .tc main_v5) (ix2 l d) = (P.sin l (hr d) : EReal))
include hx hn hW hc hs

theorem exit0_q : exit 0 W c (Proc.devRef .tc main_v30_0) = flat (fun b l j => qrow P x b l j / 8) := by
  refine (exit_arr 0 W c 5).trans ((D0 W c).arrAt_eq_of_covers 5 _ (by decide +kernel) fun t _ y => ?_)
  blk_simp
  rw [Own.K0.after0_5]
  unfold Own.K0.outsAt0
  frame_out
  refine ((congrArg _ (eq_ix2 y)).trans (Blocks.queries (fun d => blk0_x W c hx t _ d) (fun d => (blk0_n W c t 0 d).trans (hn d)) (fun d => (blk0_c W c t _ d).trans (hc _ d)) (fun d => (blk0_s W c t _ d).trans (hs _ d)) (y 1) (fun k d => (blk0_w W c t k _).trans (hW.q k d)) (fun k d => (blk0_w W c t k _).trans (hW.q' k d)))).trans (flat0 (fun b l j => qrow P x b l j / 8) t (y 0) (y 1) ?_ ?_) <;> blk_simp [idx0 t]

theorem exit0_k : exit 0 W c (Proc.devRef .tc main_v30_1) = flat (krow P x) := by
  refine (exit_arr 0 W c 6).trans ((D0 W c).arrAt_eq_of_covers 6 _ (by decide +kernel) fun t _ y => ?_)
  blk_simp
  rw [Own.K0.after0_6]
  unfold Own.K0.outsAt0
  frame_out
  refine ((congrArg _ (eq_ix2 y)).trans (Blocks.keys (fun d => blk0_x W c hx t _ d) (fun d => (blk0_n W c t 0 d).trans (hn d)) (fun d => (blk0_c W c t _ d).trans (hc _ d)) (fun d => (blk0_s W c t _ d).trans (hs _ d)) (y 1) (fun k d => (blk0_w W c t k _).trans (hW.k k d)) (fun k d => (blk0_w W c t k _).trans (hW.k' k d)))).trans (flat0 (krow P x) t (y 0) (y 1) ?_ ?_) <;> blk_simp [idx0 t]

omit hc hs in
theorem exit0_v : exit 0 W c (Proc.devRef .tc main_v30_2) = flat (vrow P x) := by
  refine (exit_arr 0 W c 7).trans ((D0 W c).arrAt_eq_of_covers 7 _ (by decide +kernel) fun t _ y => ?_)
  blk_simp
  rw [Own.K0.after0_7]
  unfold Own.K0.outsAt0
  frame_out
  refine ((congrArg _ (eq_ix2 y)).trans (Blocks.values (fun d => blk0_x W c hx t _ d) (fun d => (blk0_n W c t 0 d).trans (hn d)) (y 1) (fun k d => (blk0_w W c t k _).trans (hW.v k d)))).trans (flat0 (vrow P x) t (y 0) (y 1) ?_ ?_) <;> blk_simp [idx0 t]

end

/-! ## Layer 2 -/

theorem idx6 : ∀ t : Fin cfg6.N, win6_0.index t = ![(grid6.coords t 1).val * 2 + (grid6.coords t 0).val, 0] ∧ win6_1.index t = ![0, 0] ∧
    win6_2.index t = ![0, 0] ∧ win6_3.index t = ![(grid6.coords t 0).val, 0] ∧ win6_4.index t = ![(grid6.coords t 0).val, 0] ∧
    win6_5.index t = ![(grid6.coords t 1).val * 2 + (grid6.coords t 0).val, 0] ∧
    win6_6.index t = ![(grid6.coords t 1).val * 2 + (grid6.coords t 0).val, 0] ∧
    win6_7.index t = ![(grid6.coords t 1).val * 2 + (grid6.coords t 0).val, 0] :=
  (by decide +kernel : ∀ t : Fin grid6.N, _)

/-- Call 6's data. -/
abbrev D6 := Own.K6.dat (F := Ideal) (Ix := Unit) (U := UR sig nD τ) (Lvl := ℕ) Variants.none (V W) (fun _ => 0) c

/-- A batch and position that row `i` of point `t`'s block is. -/
def pb6 (t : Fin cfg6.N) : Fin 4 := ⟨grid6.coords t 1, (grid6.coords t 1).isLt⟩
def pl6 (t : Fin cfg6.N) (i : Fin 1024) : Fin 2048 :=
  ⟨grid6.coords t 0 * 1024 + i, by have : (grid6.coords t 0 : ℕ) < 2 := (grid6.coords t 0).isLt; omega⟩

theorem at6 (t : Fin cfg6.N) (i : Fin 1024) : ((grid6.coords t 1 : ℕ) * 2 + grid6.coords t 0) * 1024 + i = pb6 t * 2048 + pl6 t i := by
  simp only [pb6, pl6]; omega

theorem blk6_x (hx : W c (Proc.devRef .tc main_v55) = flat x) (t : Fin cfg6.N) (i : Fin 1024) (d : Fin 768) :
    Own.K6.iblk (V W) c 0 t (ix2 i d) = (x (pb6 t) (pl6 t i) d : EReal) := by
  blk_simp [Own.K6.iblk]
  refine (congrFun hx _).trans (flat_at ?_ ?_)
  · blk_simp [idx6 t]; exact at6 t i
  · blk_simp [idx6 t]

theorem blk6_n (t : Fin cfg6.N) (i : Fin 1) (d : Fin 768) :
    Own.K6.iblk (V W) c 1 t (ix2 i d) = W c (Proc.devRef .tc main_v78) (ix2 i d) := by blk_ext [Own.K6.iblk, V, idx6 t]

theorem blk6_w (t : Fin cfg6.N) (i : Fin 768) (d : Fin 3840) :
    Own.K6.iblk (V W) c 2 t (ix2 i d) = W c (Proc.devRef .tc main_v75) (ix2 i d) := by blk_ext [Own.K6.iblk, V, idx6 t]

theorem blk6_c (t : Fin cfg6.N) (i : Fin 1024) (d : Fin 768) :
    Own.K6.iblk (V W) c 3 t (ix2 i d) = W c (Proc.devRef .tc main_v2) (ix2 (pl6 t i) d) := by blk_ext [Own.K6.iblk, V, idx6 t, pl6]

theorem blk6_s (t : Fin cfg6.N) (i : Fin 1024) (d : Fin 768) :
    Own.K6.iblk (V W) c 4 t (ix2 i d) = W c (Proc.devRef .tc main_v5) (ix2 (pl6 t i) d) := by blk_ext [Own.K6.iblk, V, idx6 t, pl6]

/-- Where an element of a row block sits. -/
theorem flat6 (f : Act) (t : Fin cfg6.N) (i : Fin 1024) (j : Fin 768) {z : S8192x768.Idx} (h0 : (z 0 : ℕ) = ((grid6.coords t 1 : ℕ) * 2 + grid6.coords t 0) * 1024 + i)
    (h1 : (z 1 : ℕ) = j) : (f (pb6 t) (pl6 t i) j : EReal) = flat f z := (flat_at (h0.trans (at6 t i)) h1).symm

section
variable (hx : W c (Proc.devRef .tc main_v55) = flat x) (hn : ∀ d, W c (Proc.devRef .tc main_v78) (ix2 0 d) = (P.an d : EReal))
  (hW : Joined (W c (Proc.devRef .tc main_v75)) P)
  (hc : ∀ l d, W c (Proc.devRef .tc main_v2) (ix2 l d) = (P.cos l (hr d) : EReal))
  (hs : ∀ l d, W c (Proc.devRef .tc main_v5) (ix2 l d) = (P.sin l (hr d) : EReal))
include hx hn hW hc hs

theorem exit6_q : exit 6 W c (Proc.devRef .tc main_v79_0) = flat (fun b l j => qrow P x b l j / 8) := by
  refine (exit_arr 6 W c 5).trans ((D6 W c).arrAt_eq_of_covers 5 _ (by decide +kernel) fun t _ y => ?_)
  blk_simp
  rw [Own.K6.after6_5]
  unfold Own.K6.outsAt6
  frame_out
  refine ((congrArg _ (eq_ix2 y)).trans (Blocks.queries (fun d => blk6_x W c hx t _ d) (fun d => (blk6_n W c t 0 d).trans (hn d)) (fun d => (blk6_c W c t _ d).trans (hc _ d)) (fun d => (blk6_s W c t _ d).trans (hs _ d)) (y 1) (fun k d => (blk6_w W c t k _).trans (hW.q k d)) (fun k d => (blk6_w W c t k _).trans (hW.q' k d)))).trans (flat6 (fun b l j => qrow P x b l j / 8) t (y 0) (y 1) ?_ ?_) <;> blk_simp [idx6 t]

theorem exit6_k : exit 6 W c (Proc.devRef .tc main_v79_1) = flat (krow P x) := by
  refine (exit_arr 6 W c 6).trans ((D6 W c).arrAt_eq_of_covers 6 _ (by decide +kernel) fun t _ y => ?_)
  blk_simp
  rw [Own.K6.after6_6]
  unfold Own.K6.outsAt6
  frame_out
  refine ((congrArg _ (eq_ix2 y)).trans (Blocks.keys (fun d => blk6_x W c hx t _ d) (fun d => (blk6_n W c t 0 d).trans (hn d)) (fun d => (blk6_c W c t _ d).trans (hc _ d)) (fun d => (blk6_s W c t _ d).trans (hs _ d)) (y 1) (fun k d => (blk6_w W c t k _).trans (hW.k k d)) (fun k d => (blk6_w W c t k _).trans (hW.k' k d)))).trans (flat6 (krow P x) t (y 0) (y 1) ?_ ?_) <;> blk_simp [idx6 t]

omit hc hs in
theorem exit6_v : exit 6 W c (Proc.devRef .tc main_v79_2) = flat (vrow P x) := by
  refine (exit_arr 6 W c 7).trans ((D6 W c).arrAt_eq_of_covers 7 _ (by decide +kernel) fun t _ y => ?_)
  blk_simp
  rw [Own.K6.after6_7]
  unfold Own.K6.outsAt6
  frame_out
  refine ((congrArg _ (eq_ix2 y)).trans (Blocks.values (fun d => blk6_x W c hx t _ d) (fun d => (blk6_n W c t 0 d).trans (hn d)) (y 1) (fun k d => (blk6_w W c t k _).trans (hW.v k d)))).trans (flat6 (vrow P x) t (y 0) (y 1) ?_ ?_) <;> blk_simp [idx6 t]

end

end Cert.KernelIdeal.Regions

end
-- ==== Proof.Attention.lean ====
/-
  What an attention call leaves in its result block. Head `n` of the block is stored by itself: the 64 columns
  from `64 * n` on hold the softmax-weighted values of the block's 512 queries over the keys up to each query's
  place. Blocks 1, 2 and 3 read the keys of the blocks before them without a mask and those of their own block with one;
  block 0 has none before it. The heads' payloads are cut apart differently from head to head in the printed body, but each
  unfolds to one function of the loads, so one lemma per block does for its twelve heads.
-/
module

public import proofs.«01_k».proof.Proof.Net
public import proofs.«01_k».proof.Proof.Gen.Own.KernelIdeal.K1.Frame
public import proofs.«01_k».proof.Proof.Gen.Own.KernelIdeal.K2.Frame
public import proofs.«01_k».proof.Proof.Gen.Own.KernelIdeal.K3.Frame
public import proofs.«01_k».proof.Proof.Gen.Own.KernelIdeal.K4.Frame
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Attention

open Cert.KernelIdeal Cert.KernelIdeal.Gen
open Idealize.ShloMosaic Cert.Net

/-- The mask's entry: nothing added where the key is not after the query, the named −∞ elsewhere. -/
theorem masked (a b : Fin 512) :
    (Scalar.select (IntOp.cmpi CmpIPredicate.sle (BitVec.ofNat 32 a) (BitVec.ofNat 32 b)) 0
      (Named.named κ "mask" 3463342888#32 : Ideal .f32) : EReal) = if a ≤ b then 0 else ⊥ := by
  rw [show (Named.named κ "mask" 3463342888#32 : Ideal .f32) = (⊥ : EReal) from rfl]
  unfold Scalar.select
  exact if_congr (WordCmp.cmpi_sle_ofNat_eq_one_iff (by omega) (by omega)) rfl rfl

/-- The block of query rows `P`, `P + 1`, … after attention: the queries are the block's own rows. -/
def block (P : ℕ) (hP : P + 512 ≤ 2048) (q : Fin 512 → Fin 768 → ℝ) (k v : Fin 2048 → Fin 768 → ℝ) (y : S1x512x768.Idx) : EReal :=
  (attn (q (y 1)) k v (tok P hP (y 1)) (y 2) : EReal)

/-- `block` at the element that head `n`'s store puts at its own index `(a, j)`. -/
theorem block_at {P : ℕ} {hP : P + 512 ≤ 2048} {q : Fin 512 → Fin 768 → ℝ} {k v : Fin 2048 → Fin 768 → ℝ} {y : S1x512x768.Idx}
    {n : Fin 12} {a : Fin 512} {j : Fin 64} (h1 : (y 1 : ℕ) = a) (h2 : (y 2 : ℕ) = n * 64 + j) :
    (attn (q a) k v (tok P hP a) (hd n j) : EReal) = block P hP q k v y := by
  have e1 : (y 1 : Fin 512) = a := Fin.ext h1
  have e2 : (y 2 : Fin 768) = hd n j := Fin.ext h2
  unfold block
  simp only [e1, e2]

section
variable {q : Fin 512 → Fin 768 → ℝ} {k v : Fin 2048 → Fin 768 → ℝ} {x0 : Vec Ideal S1x512x768 .bf16}
  (hq : ∀ a c, x0 (ix3 0 a c) = ((q a c / 8 : ℝ) : EReal))
include hq

section First
variable {hB : 512 ≤ 2048} {x1 x2 : Vec Ideal S1x512x768 .bf16}
  (hk : ∀ (a : Fin 512) c, x1 (ix3 0 a c) = (k (pre hB a) c : EReal)) (hv : ∀ (a : Fin 512) c, x2 (ix3 0 a c) = (v (pre hB a) c : EReal))
include hk hv

theorem head1 (o : ℕ) (inb) (ho : o < 768 ∧ o % 64 = 0) (x : S1x512x64.Idx) (y : S1x512x768.Idx) (h1 : (y 1 : ℕ) = x 1)
    (h2 : (y 2 : ℕ) = o + x 2) :
    k1_pay3 (F := Ideal) (View.ld x0 (Rect.unit ![0, 0, o] ![1, 512, 64] inb)) (View.ld x1 (Rect.unit ![0, 0, o] ![1, 512, 64] inb))
      (View.ld x2 (Rect.unit ![0, 0, o] ![1, 512, 64] inb)) x = block 0 hB q k v y := by
  obtain ⟨n, rfl⟩ : ∃ n : Fin 12, o = n * 64 := ⟨⟨o / 64, by omega⟩, by dsimp only; omega⟩
  obtain ⟨a, j, rfl⟩ : ∃ (a : Fin 512) (j : Fin 64), x = ix3 0 a j := ⟨x 1, x 2, (eq_ix3 x).trans (congrArg (ix3 · (x 1) (x 2)) (Subsingleton.elim _ _))⟩
  refine Eq.trans ?_ (block_at (hP := hB) (n := n) (a := a) (j := j) h1 h2)
  pointwise [k1_pay3, k1_pay2]
  simp only [masked]
  exact (head_first (q := q a) (k := k) (v := v) (n := n) (fun d => hq a _) (fun x d => hk x _) (fun x => hv x _)).trans
    (by rw [tok_zero])

theorem out1 (c : Dev nD) (i : grid1.Coords) (a1 : Memref sig .tc .vmem S1x512x768 .bf16) (h1 : a1.IsWhole) (a2 : Memref sig .tc .vmem S1x512x768 .bf16) (h2 : a2.IsWhole)
    (a3 : Memref sig .tc .vmem S1x512x768 .bf16) (h3 : a3.IsWhole) (a4 : Memref sig .tc .vmem S1x512x768 .bf16) (h4 : a4.IsWhole) (y : S1x512x768.Idx) :
    Own.K1.out1_A_3 (F := Ideal) (Ix := Unit) (U := UR sig nD τ) (Lvl := ℕ) Variants.none c i a1 h1 a2 h2 a3 h3 a4 h4 x0 x1 x2 y
      = block 0 hB q k v y := by
  frame_out
  canon_tiles x h
  all_goals (refine head1 hq hk hv _ _ ?_ x y h1 ?_ <;> [decide; omega])

end First

/-! The blocks with keys before them: the block's own keys lie at rows `P`, …, `P + 511` of the call's key block. -/

section Block1
variable {hP : 512 + 512 ≤ 2048} {hB : 1024 ≤ 2048} {x1 x2 : Vec Ideal S1x1024x768 .bf16}
  (hk : ∀ (a : Fin 1024) c, x1 (ix3 0 a c) = (k (pre hB a) c : EReal)) (hv : ∀ (a : Fin 1024) c, x2 (ix3 0 a c) = (v (pre hB a) c : EReal))
include hk hv

theorem head2 (o : ℕ) (inb inb' inb'') (ho : o < 768 ∧ o % 64 = 0) (x : S1x512x64.Idx) (y : S1x512x768.Idx) (h1 : (y 1 : ℕ) = x 1)
    (h2 : (y 2 : ℕ) = o + x 2) :
    k2_pay5 (F := Ideal) k2_pay2 (View.ld x0 (Rect.unit ![0, 0, o] ![1, 512, 64] inb))
      (View.ld x1 (Rect.unit ![0, 512, o] ![1, 512, 64] inb')) (View.ld x2 (Rect.unit ![0, 512, o] ![1, 512, 64] inb'))
      (View.ld x1 (Rect.unit ![0, 0, o] ![1, 512, 64] inb'')) (View.ld x2 (Rect.unit ![0, 0, o] ![1, 512, 64] inb'')) x
      = block 512 hP q k v y := by
  obtain ⟨n, rfl⟩ : ∃ n : Fin 12, o = n * 64 := ⟨⟨o / 64, by omega⟩, by dsimp only; omega⟩
  obtain ⟨a, j, rfl⟩ : ∃ (a : Fin 512) (j : Fin 64), x = ix3 0 a j := ⟨x 1, x 2, (eq_ix3 x).trans (congrArg (ix3 · (x 1) (x 2)) (Subsingleton.elim _ _))⟩
  refine Eq.trans ?_ (block_at (hP := hP) (n := n) (a := a) (j := j) h1 h2)
  pointwise [k2_pay5, k2_pay2]
  simp only [masked]
  exact head (q := q a) (k := k) (v := v) (n := n) (hB := Nat.le_of_add_right_le hP) (fun d => hq a _) (fun x d => hk _ _) (fun x => hv _ _) (fun x d => hk _ _) (fun x => hv _ _)

theorem out2 (c : Dev nD) (i : grid2.Coords) (a1 : Memref sig .tc .vmem S1x512x768 .bf16) (h1 : a1.IsWhole) (a2 : Memref sig .tc .vmem S1x1024x768 .bf16) (h2 : a2.IsWhole)
    (a3 : Memref sig .tc .vmem S1x1024x768 .bf16) (h3 : a3.IsWhole) (a4 : Memref sig .tc .vmem S1x512x768 .bf16) (h4 : a4.IsWhole) (y : S1x512x768.Idx) :
    Own.K2.out2_A_3 (F := Ideal) (Ix := Unit) (U := UR sig nD τ) (Lvl := ℕ) Variants.none c i a1 h1 a2 h2 a3 h3 a4 h4 x0 x1 x2 y
      = block 512 hP q k v y := by
  frame_out
  canon_tiles x h
  all_goals (refine head2 hq hk hv _ _ _ _ ?_ x y h1 ?_ <;> [decide; omega])

end Block1

section Block2
variable {hP : 1024 + 512 ≤ 2048} {hB : 1536 ≤ 2048} {x1 x2 : Vec Ideal S1x1536x768 .bf16}
  (hk : ∀ (a : Fin 1536) c, x1 (ix3 0 a c) = (k (pre hB a) c : EReal)) (hv : ∀ (a : Fin 1536) c, x2 (ix3 0 a c) = (v (pre hB a) c : EReal))
include hk hv

theorem head3 (o : ℕ) (inb inb' inb'') (ho : o < 768 ∧ o % 64 = 0) (x : S1x512x64.Idx) (y : S1x512x768.Idx) (h1 : (y 1 : ℕ) = x 1)
    (h2 : (y 2 : ℕ) = o + x 2) :
    k3_pay5 (F := Ideal) k3_pay2 (View.ld x0 (Rect.unit ![0, 0, o] ![1, 512, 64] inb))
      (View.ld x1 (Rect.unit ![0, 1024, o] ![1, 512, 64] inb')) (View.ld x2 (Rect.unit ![0, 1024, o] ![1, 512, 64] inb'))
      (View.ld x1 (Rect.unit ![0, 0, o] ![1, 1024, 64] inb'')) (View.ld x2 (Rect.unit ![0, 0, o] ![1, 1024, 64] inb'')) x
      = block 1024 hP q k v y := by
  obtain ⟨n, rfl⟩ : ∃ n : Fin 12, o = n * 64 := ⟨⟨o / 64, by omega⟩, by dsimp only; omega⟩
  obtain ⟨a, j, rfl⟩ : ∃ (a : Fin 512) (j : Fin 64), x = ix3 0 a j := ⟨x 1, x 2, (eq_ix3 x).trans (congrArg (ix3 · (x 1) (x 2)) (Subsingleton.elim _ _))⟩
  refine Eq.trans ?_ (block_at (hP := hP) (n := n) (a := a) (j := j) h1 h2)
  pointwise [k3_pay5, k3_pay2]
  simp only [masked]
  exact head (q := q a) (k := k) (v := v) (n := n) (hB := Nat.le_of_add_right_le hP) (fun d => hq a _) (fun x d => hk _ _) (fun x => hv _ _) (fun x d => hk _ _) (fun x => hv _ _)

theorem out3 (c : Dev nD) (i : grid3.Coords) (a1 : Memref sig .tc .vmem S1x512x768 .bf16) (h1 : a1.IsWhole) (a2 : Memref sig .tc .vmem S1x1536x768 .bf16) (h2 : a2.IsWhole)
    (a3 : Memref sig .tc .vmem S1x1536x768 .bf16) (h3 : a3.IsWhole) (a4 : Memref sig .tc .vmem S1x512x768 .bf16) (h4 : a4.IsWhole) (y : S1x512x768.Idx) :
    Own.K3.out3_A_3 (F := Ideal) (Ix := Unit) (U := UR sig nD τ) (Lvl := ℕ) Variants.none c i a1 h1 a2 h2 a3 h3 a4 h4 x0 x1 x2 y
      = block 1024 hP q k v y := by
  frame_out
  canon_tiles x h
  all_goals (refine head3 hq hk hv _ _ _ _ ?_ x y h1 ?_ <;> [decide; omega])

end Block2

section Block3
variable {hP : 1536 + 512 ≤ 2048} {hB : 2048 ≤ 2048} {x1 x2 : Vec Ideal S1x2048x768 .bf16}
  (hk : ∀ (a : Fin 2048) c, x1 (ix3 0 a c) = (k (pre hB a) c : EReal)) (hv : ∀ (a : Fin 2048) c, x2 (ix3 0 a c) = (v (pre hB a) c : EReal))
include hk hv

theorem head4 (o : ℕ) (inb inb' inb'') (ho : o < 768 ∧ o % 64 = 0) (x : S1x512x64.Idx) (y : S1x512x768.Idx) (h1 : (y 1 : ℕ) = x 1)
    (h2 : (y 2 : ℕ) = o + x 2) :
    k4_pay5 (F := Ideal) k4_pay2 (View.ld x0 (Rect.unit ![0, 0, o] ![1, 512, 64] inb))
      (View.ld x1 (Rect.unit ![0, 1536, o] ![1, 512, 64] inb')) (View.ld x2 (Rect.unit ![0, 1536, o] ![1, 512, 64] inb'))
      (View.ld x1 (Rect.unit ![0, 0, o] ![1, 1536, 64] inb'')) (View.ld x2 (Rect.unit ![0, 0, o] ![1, 1536, 64] inb'')) x
      = block 1536 hP q k v y := by
  obtain ⟨n, rfl⟩ : ∃ n : Fin 12, o = n * 64 := ⟨⟨o / 64, by omega⟩, by dsimp only; omega⟩
  obtain ⟨a, j, rfl⟩ : ∃ (a : Fin 512) (j : Fin 64), x = ix3 0 a j := ⟨x 1, x 2, (eq_ix3 x).trans (congrArg (ix3 · (x 1) (x 2)) (Subsingleton.elim _ _))⟩
  refine Eq.trans ?_ (block_at (hP := hP) (n := n) (a := a) (j := j) h1 h2)
  pointwise [k4_pay5, k4_pay2]
  simp only [masked]
  exact head (q := q a) (k := k) (v := v) (n := n) (hB := Nat.le_of_add_right_le hP) (fun d => hq a _) (fun x d => hk _ _) (fun x => hv _ _) (fun x d => hk _ _) (fun x => hv _ _)

theorem out4 (c : Dev nD) (i : grid4.Coords) (a1 : Memref sig .tc .vmem S1x512x768 .bf16) (h1 : a1.IsWhole) (a2 : Memref sig .tc .vmem S1x2048x768 .bf16) (h2 : a2.IsWhole)
    (a3 : Memref sig .tc .vmem S1x2048x768 .bf16) (h3 : a3.IsWhole) (a4 : Memref sig .tc .vmem S1x512x768 .bf16) (h4 : a4.IsWhole) (y : S1x512x768.Idx) :
    Own.K4.out4_A_3 (F := Ideal) (Ix := Unit) (U := UR sig nD τ) (Lvl := ℕ) Variants.none c i a1 h1 a2 h2 a3 h3 a4 h4 x0 x1 x2 y
      = block 1536 hP q k v y := by
  frame_out
  canon_tiles x h
  all_goals (refine head4 hq hk hv _ _ _ _ ?_ x y h1 ?_ <;> [decide; omega])

end Block3

end

end Cert.KernelIdeal.Attention

end
-- ==== Proof.AttentionAgain.lean ====
/-
  The second layer's attention calls have the first layer's bodies, so their blocks are the same functions of the loads.
-/
module

public import proofs.«01_k».proof.Proof.Attention
public import proofs.«01_k».proof.Proof.Gen.Own.KernelIdeal.K7.Frame
public import proofs.«01_k».proof.Proof.Gen.Own.KernelIdeal.K8.Frame
public import proofs.«01_k».proof.Proof.Gen.Own.KernelIdeal.K9.Frame
public import proofs.«01_k».proof.Proof.Gen.Own.KernelIdeal.K10.Frame

@[expose] public section

set_option maxRecDepth 16384

noncomputable section

namespace Cert.KernelIdeal.Attention

open Cert.KernelIdeal Cert.KernelIdeal.Gen
open Idealize.ShloMosaic

variable (c : Dev nD) (a1 : Memref sig .tc .vmem S1x512x768 .bf16) (h1 : a1.IsWhole) (a4 : Memref sig .tc .vmem S1x512x768 .bf16) (h4 : a4.IsWhole)
  (x0 : Vec Ideal S1x512x768 .bf16)

theorem same7 (i : grid7.Coords) (a2 : Memref sig .tc .vmem S1x512x768 .bf16) (h2 : a2.IsWhole) (a3 : Memref sig .tc .vmem S1x512x768 .bf16) (h3 : a3.IsWhole)
    (x1 x2 : Vec Ideal S1x512x768 .bf16) :
    Own.K7.out7_A_3 (F := Ideal) (Ix := Unit) (U := UR sig nD τ) (Lvl := ℕ) Variants.none c i a1 h1 a2 h2 a3 h3 a4 h4 x0 x1 x2
      = Own.K1.out1_A_3 (F := Ideal) (Ix := Unit) (U := UR sig nD τ) (Lvl := ℕ) Variants.none c i a1 h1 a2 h2 a3 h3 a4 h4 x0 x1 x2 := by
  frame_out
  rfl

theorem same8 (i : grid8.Coords) (a2 : Memref sig .tc .vmem S1x1024x768 .bf16) (h2 : a2.IsWhole) (a3 : Memref sig .tc .vmem S1x1024x768 .bf16) (h3 : a3.IsWhole)
    (x1 x2 : Vec Ideal S1x1024x768 .bf16) :
    Own.K8.out8_A_3 (F := Ideal) (Ix := Unit) (U := UR sig nD τ) (Lvl := ℕ) Variants.none c i a1 h1 a2 h2 a3 h3 a4 h4 x0 x1 x2
      = Own.K2.out2_A_3 (F := Ideal) (Ix := Unit) (U := UR sig nD τ) (Lvl := ℕ) Variants.none c i a1 h1 a2 h2 a3 h3 a4 h4 x0 x1 x2 := by
  frame_out
  rfl

theorem same9 (i : grid9.Coords) (a2 : Memref sig .tc .vmem S1x1536x768 .bf16) (h2 : a2.IsWhole) (a3 : Memref sig .tc .vmem S1x1536x768 .bf16) (h3 : a3.IsWhole)
    (x1 x2 : Vec Ideal S1x1536x768 .bf16) :
    Own.K9.out9_A_3 (F := Ideal) (Ix := Unit) (U := UR sig nD τ) (Lvl := ℕ) Variants.none c i a1 h1 a2 h2 a3 h3 a4 h4 x0 x1 x2
      = Own.K3.out3_A_3 (F := Ideal) (Ix := Unit) (U := UR sig nD τ) (Lvl := ℕ) Variants.none c i a1 h1 a2 h2 a3 h3 a4 h4 x0 x1 x2 := by
  frame_out
  rfl

theorem same10 (i : grid10.Coords) (a2 : Memref sig .tc .vmem S1x2048x768 .bf16) (h2 : a2.IsWhole) (a3 : Memref sig .tc .vmem S1x2048x768 .bf16) (h3 : a3.IsWhole)
    (x1 x2 : Vec Ideal S1x2048x768 .bf16) :
    Own.K10.out10_A_3 (F := Ideal) (Ix := Unit) (U := UR sig nD τ) (Lvl := ℕ) Variants.none c i a1 h1 a2 h2 a3 h3 a4 h4 x0 x1 x2
      = Own.K4.out4_A_3 (F := Ideal) (Ix := Unit) (U := UR sig nD τ) (Lvl := ℕ) Variants.none c i a1 h1 a2 h2 a3 h3 a4 h4 x0 x1 x2 := by
  frame_out
  rfl

end Cert.KernelIdeal.Attention

end
-- ==== Proof.AttnCalls.lean ====
/-
  What the attention calls leave in their arrays: each a quarter of the positions, given the queries (already an
  eighth), the keys and the values of every row.
-/
module

public import proofs.«01_k».proof.Proof.Run
public import proofs.«01_k».proof.Proof.AttentionAgain
public import proofs.«01_k».proof.Proof.Arrays

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-- Attention of every row. -/
def ctx (q k v : Act) : Act := fun b l => attn (q b l) (k b) (v b) l

/-- A block of batch `b`'s rows, placed. -/
theorem part_at {p : ℕ} {hp : p + 512 ≤ 2048} {q k v : Act} {b : Fin 4} {y : S1x512x768.Idx} {z : S4x512x768.Idx}
    (h0 : (z 0 : ℕ) = b) (h1 : (z 1 : ℕ) = y 1) (h2 : (z 2 : ℕ) = y 2) :
    Attention.block p hp (fun a => q b (tok p hp a)) (k b) (v b) y = part p hp (ctx q k v) z := by
  have e0 : (z 0 : Fin 4) = b := Fin.ext h0
  have e1 : (z 1 : Fin 512) = y 1 := Fin.ext h1
  have e2 : (z 2 : Fin 768) = y 2 := Fin.ext h2
  simp only [part, Attention.block, ctx, e0, e1, e2]

variable (W : Vals Ideal) (c : Dev nD) {q k v : Act}

/-! ## Layer 1 -/

section
variable (hq : W c (Proc.devRef .tc main_v31) = cube fun b l j => q b l j / 8) (hk : W c (Proc.devRef .tc main_v32) = cube k)
  (hv : W c (Proc.devRef .tc main_v33) = cube v)
include hq hk hv

omit hq hk hv in
theorem idx1 : ∀ t : Fin cfg1.N, win1_0.index t = ![(grid1.coords t 0).val, 0, 0] ∧ win1_1.index t = ![(grid1.coords t 0).val, 0, 0] ∧
    win1_2.index t = ![(grid1.coords t 0).val, 0, 0] ∧ win1_3.index t = ![(grid1.coords t 0).val, 0, 0] :=
  (by decide +kernel : ∀ t : Fin grid1.N, _)

theorem exit1_o : exit 1 W c (Proc.devRef .tc main_v34) = part 0 (by decide) (ctx q k v) := by
  refine (exit_arr 1 W c 3).trans ((Own.K1.dat (F := Ideal) (Ix := Unit) (U := UR sig nD τ) (Lvl := ℕ) Variants.none (V W) (fun _ => 0) c).arrAt_eq_of_covers
    3 _ (by decide +kernel) fun t _ y => ?_)
  blk_simp
  rw [Own.K1.after1_3]
  unfold Own.K1.outsAt1
  refine (Attention.out1 (hB := by decide) (q := fun a => q (grid1.coords t 0) (tok 0 (by decide) a)) (k := k (grid1.coords t 0)) (v := v (grid1.coords t 0))
    (fun a d => ?_) (fun a d => ?_) (fun a d => ?_) ..).trans (part_at (b := grid1.coords t 0) ?_ ?_ ?_)
  · blk_simp [Own.K1.iblk]
    refine (congrFun hq _).trans (cube_at (f := fun b l j => q b l j / 8) ?_ ?_ ?_) <;> blk_simp [idx1 t, tok]
    exact Nat.add_zero _
  · blk_simp [Own.K1.iblk]
    refine (congrFun hk _).trans (cube_at ?_ ?_ ?_) <;> blk_simp [idx1 t, pre]
    exact Nat.add_zero _
  · blk_simp [Own.K1.iblk]
    refine (congrFun hv _).trans (cube_at ?_ ?_ ?_) <;> blk_simp [idx1 t, pre]
    exact Nat.add_zero _
  all_goals blk_simp [idx1 t]

omit hq hk hv in
theorem idx2 : ∀ t : Fin cfg2.N, win2_0.index t = ![(grid2.coords t 0).val, 1, 0] ∧ win2_1.index t = ![(grid2.coords t 0).val, 0, 0] ∧
    win2_2.index t = ![(grid2.coords t 0).val, 0, 0] ∧ win2_3.index t = ![(grid2.coords t 0).val, 0, 0] :=
  (by decide +kernel : ∀ t : Fin grid2.N, _)

theorem exit2_o : exit 2 W c (Proc.devRef .tc main_v35) = part 512 (by decide) (ctx q k v) := by
  refine (exit_arr 2 W c 3).trans ((Own.K2.dat (F := Ideal) (Ix := Unit) (U := UR sig nD τ) (Lvl := ℕ) Variants.none (V W) (fun _ => 0) c).arrAt_eq_of_covers
    3 _ (by decide +kernel) fun t _ y => ?_)
  blk_simp
  rw [Own.K2.after2_3]
  unfold Own.K2.outsAt2
  refine (Attention.out2 (hP := by decide) (hB := by decide) (q := fun a => q (grid2.coords t 0) (tok 512 (by decide) a)) (k := k (grid2.coords t 0)) (v := v (grid2.coords t 0))
    (fun a d => ?_) (fun a d => ?_) (fun a d => ?_) ..).trans (part_at (b := grid2.coords t 0) ?_ ?_ ?_)
  · blk_simp [Own.K2.iblk]
    refine (congrFun hq _).trans (cube_at (f := fun b l j => q b l j / 8) ?_ ?_ ?_) <;> blk_simp [idx2 t, tok]
    exact Nat.add_zero _
  · blk_simp [Own.K2.iblk]
    refine (congrFun hk _).trans (cube_at ?_ ?_ ?_) <;> blk_simp [idx2 t, pre]
    exact Nat.add_zero _
  · blk_simp [Own.K2.iblk]
    refine (congrFun hv _).trans (cube_at ?_ ?_ ?_) <;> blk_simp [idx2 t, pre]
    exact Nat.add_zero _
  all_goals blk_simp [idx2 t]

omit hq hk hv in
theorem idx3 : ∀ t : Fin cfg3.N, win3_0.index t = ![(grid3.coords t 0).val, 2, 0] ∧ win3_1.index t = ![(grid3.coords t 0).val, 0, 0] ∧
    win3_2.index t = ![(grid3.coords t 0).val, 0, 0] ∧ win3_3.index t = ![(grid3.coords t 0).val, 0, 0] :=
  (by decide +kernel : ∀ t : Fin grid3.N, _)

theorem exit3_o : exit 3 W c (Proc.devRef .tc main_v36) = part 1024 (by decide) (ctx q k v) := by
  refine (exit_arr 3 W c 3).trans ((Own.K3.dat (F := Ideal) (Ix := Unit) (U := UR sig nD τ) (Lvl := ℕ) Variants.none (V W) (fun _ => 0) c).arrAt_eq_of_covers
    3 _ (by decide +kernel) fun t _ y => ?_)
  blk_simp
  rw [Own.K3.after3_3]
  unfold Own.K3.outsAt3
  refine (Attention.out3 (hP := by decide) (hB := by decide) (q := fun a => q (grid3.coords t 0) (tok 1024 (by decide) a)) (k := k (grid3.coords t 0)) (v := v (grid3.coords t 0))
    (fun a d => ?_) (fun a d => ?_) (fun a d => ?_) ..).trans (part_at (b := grid3.coords t 0) ?_ ?_ ?_)
  · blk_simp [Own.K3.iblk]
    refine (congrFun hq _).trans (cube_at (f := fun b l j => q b l j / 8) ?_ ?_ ?_) <;> blk_simp [idx3 t, tok]
    exact Nat.add_zero _
  · unfold Own.K3.X3_1 Pipeline.Window.fill
    rw [dif_pos (Own.K3.moved3_1 t _)]
    blk_simp [Own.K3.iblk]
    refine (congrFun hk _).trans (cube_at ?_ ?_ ?_) <;> blk_simp [idx3 t, pre]
    all_goals exact Nat.add_zero _
  · unfold Own.K3.X3_2 Pipeline.Window.fill
    rw [dif_pos (Own.K3.moved3_2 t _)]
    blk_simp [Own.K3.iblk]
    refine (congrFun hv _).trans (cube_at ?_ ?_ ?_) <;> blk_simp [idx3 t, pre]
    all_goals exact Nat.add_zero _
  all_goals blk_simp [idx3 t]

omit hq hk hv in
theorem idx4 : ∀ t : Fin cfg4.N, win4_0.index t = ![(grid4.coords t 0).val, 3, 0] ∧ win4_1.index t = ![(grid4.coords t 0).val, 0, 0] ∧
    win4_2.index t = ![(grid4.coords t 0).val, 0, 0] ∧ win4_3.index t = ![(grid4.coords t 0).val, 0, 0] :=
  (by decide +kernel : ∀ t : Fin grid4.N, _)

theorem exit4_o : exit 4 W c (Proc.devRef .tc main_v37) = part 1536 (by decide) (ctx q k v) := by
  refine (exit_arr 4 W c 3).trans ((Own.K4.dat (F := Ideal) (Ix := Unit) (U := UR sig nD τ) (Lvl := ℕ) Variants.none (V W) (fun _ => 0) c).arrAt_eq_of_covers
    3 _ (by decide +kernel) fun t _ y => ?_)
  blk_simp
  rw [Own.K4.after4_3]
  unfold Own.K4.outsAt4
  refine (Attention.out4 (hP := by decide) (hB := by decide) (q := fun a => q (grid4.coords t 0) (tok 1536 (by decide) a)) (k := k (grid4.coords t 0)) (v := v (grid4.coords t 0))
    (fun a d => ?_) (fun a d => ?_) (fun a d => ?_) ..).trans (part_at (b := grid4.coords t 0) ?_ ?_ ?_)
  · blk_simp [Own.K4.iblk]
    refine (congrFun hq _).trans (cube_at (f := fun b l j => q b l j / 8) ?_ ?_ ?_) <;> blk_simp [idx4 t, tok]
    exact Nat.add_zero _
  · blk_simp [Own.K4.iblk]
    refine (congrFun hk _).trans (cube_at ?_ ?_ ?_) <;> blk_simp [idx4 t, pre]
    exact Nat.add_zero _
  · blk_simp [Own.K4.iblk]
    refine (congrFun hv _).trans (cube_at ?_ ?_ ?_) <;> blk_simp [idx4 t, pre]
    exact Nat.add_zero _
  all_goals blk_simp [idx4 t]

end

/-! ## Layer 2 -/

section
variable (hq : W c (Proc.devRef .tc main_v80) = cube fun b l j => q b l j / 8) (hk : W c (Proc.devRef .tc main_v81) = cube k)
  (hv : W c (Proc.devRef .tc main_v82) = cube v)
include hq hk hv

omit hq hk hv in
theorem idx7 : ∀ t : Fin cfg7.N, win7_0.index t = ![(grid7.coords t 0).val, 0, 0] ∧ win7_1.index t = ![(grid7.coords t 0).val, 0, 0] ∧
    win7_2.index t = ![(grid7.coords t 0).val, 0, 0] ∧ win7_3.index t = ![(grid7.coords t 0).val, 0, 0] :=
  (by decide +kernel : ∀ t : Fin grid7.N, _)

theorem exit7_o : exit 7 W c (Proc.devRef .tc main_v83) = part 0 (by decide) (ctx q k v) := by
  refine (exit_arr 7 W c 3).trans ((Own.K7.dat (F := Ideal) (Ix := Unit) (U := UR sig nD τ) (Lvl := ℕ) Variants.none (V W) (fun _ => 0) c).arrAt_eq_of_covers
    3 _ (by decide +kernel) fun t _ y => ?_)
  blk_simp
  rw [Own.K7.after7_3]
  unfold Own.K7.outsAt7
  refine (congrFun (Attention.same7 ..) y).trans ?_
  refine (Attention.out1 (hB := by decide) (q := fun a => q (grid7.coords t 0) (tok 0 (by decide) a)) (k := k (grid7.coords t 0)) (v := v (grid7.coords t 0))
    (fun a d => ?_) (fun a d => ?_) (fun a d => ?_) ..).trans (part_at (b := grid7.coords t 0) ?_ ?_ ?_)
  · blk_simp [Own.K7.iblk]
    refine (congrFun hq _).trans (cube_at (f := fun b l j => q b l j / 8) ?_ ?_ ?_) <;> blk_simp [idx7 t, tok]
    exact Nat.add_zero _
  · blk_simp [Own.K7.iblk]
    refine (congrFun hk _).trans (cube_at ?_ ?_ ?_) <;> blk_simp [idx7 t, pre]
    exact Nat.add_zero _
  · blk_simp [Own.K7.iblk]
    refine (congrFun hv _).trans (cube_at ?_ ?_ ?_) <;> blk_simp [idx7 t, pre]
    exact Nat.add_zero _
  all_goals blk_simp [idx7 t]

omit hq hk hv in
theorem idx8 : ∀ t : Fin cfg8.N, win8_0.index t = ![(grid8.coords t 0).val, 1, 0] ∧ win8_1.index t = ![(grid8.coords t 0).val, 0, 0] ∧
    win8_2.index t = ![(grid8.coords t 0).val, 0, 0] ∧ win8_3.index t = ![(grid8.coords t 0).val, 0, 0] :=
  (by decide +kernel : ∀ t : Fin grid8.N, _)

theorem exit8_o : exit 8 W c (Proc.devRef .tc main_v84) = part 512 (by decide) (ctx q k v) := by
  refine (exit_arr 8 W c 3).trans ((Own.K8.dat (F := Ideal) (Ix := Unit) (U := UR sig nD τ) (Lvl := ℕ) Variants.none (V W) (fun _ => 0) c).arrAt_eq_of_covers
    3 _ (by decide +kernel) fun t _ y => ?_)
  blk_simp
  rw [Own.K8.after8_3]
  unfold Own.K8.outsAt8
  refine (congrFun (Attention.same8 ..) y).trans ?_
  refine (Attention.out2 (hP := by decide) (hB := by decide) (q := fun a => q (grid8.coords t 0) (tok 512 (by decide) a)) (k := k (grid8.coords t 0)) (v := v (grid8.coords t 0))
    (fun a d => ?_) (fun a d => ?_) (fun a d => ?_) ..).trans (part_at (b := grid8.coords t 0) ?_ ?_ ?_)
  · blk_simp [Own.K8.iblk]
    refine (congrFun hq _).trans (cube_at (f := fun b l j => q b l j / 8) ?_ ?_ ?_) <;> blk_simp [idx8 t, tok]
    exact Nat.add_zero _
  · blk_simp [Own.K8.iblk]
    refine (congrFun hk _).trans (cube_at ?_ ?_ ?_) <;> blk_simp [idx8 t, pre]
    exact Nat.add_zero _
  · blk_simp [Own.K8.iblk]
    refine (congrFun hv _).trans (cube_at ?_ ?_ ?_) <;> blk_simp [idx8 t, pre]
    exact Nat.add_zero _
  all_goals blk_simp [idx8 t]

omit hq hk hv in
theorem idx9 : ∀ t : Fin cfg9.N, win9_0.index t = ![(grid9.coords t 0).val, 2, 0] ∧ win9_1.index t = ![(grid9.coords t 0).val, 0, 0] ∧
    win9_2.index t = ![(grid9.coords t 0).val, 0, 0] ∧ win9_3.index t = ![(grid9.coords t 0).val, 0, 0] :=
  (by decide +kernel : ∀ t : Fin grid9.N, _)

theorem exit9_o : exit 9 W c (Proc.devRef .tc main_v85) = part 1024 (by decide) (ctx q k v) := by
  refine (exit_arr 9 W c 3).trans ((Own.K9.dat (F := Ideal) (Ix := Unit) (U := UR sig nD τ) (Lvl := ℕ) Variants.none (V W) (fun _ => 0) c).arrAt_eq_of_covers
    3 _ (by decide +kernel) fun t _ y => ?_)
  blk_simp
  rw [Own.K9.after9_3]
  unfold Own.K9.outsAt9
  refine (congrFun (Attention.same9 ..) y).trans ?_
  refine (Attention.out3 (hP := by decide) (hB := by decide) (q := fun a => q (grid9.coords t 0) (tok 1024 (by decide) a)) (k := k (grid9.coords t 0)) (v := v (grid9.coords t 0))
    (fun a d => ?_) (fun a d => ?_) (fun a d => ?_) ..).trans (part_at (b := grid9.coords t 0) ?_ ?_ ?_)
  · blk_simp [Own.K9.iblk]
    refine (congrFun hq _).trans (cube_at (f := fun b l j => q b l j / 8) ?_ ?_ ?_) <;> blk_simp [idx9 t, tok]
    exact Nat.add_zero _
  · unfold Own.K9.X9_1 Pipeline.Window.fill
    rw [dif_pos (Own.K9.moved9_1 t _)]
    blk_simp [Own.K9.iblk]
    refine (congrFun hk _).trans (cube_at ?_ ?_ ?_) <;> blk_simp [idx9 t, pre]
    all_goals exact Nat.add_zero _
  · unfold Own.K9.X9_2 Pipeline.Window.fill
    rw [dif_pos (Own.K9.moved9_2 t _)]
    blk_simp [Own.K9.iblk]
    refine (congrFun hv _).trans (cube_at ?_ ?_ ?_) <;> blk_simp [idx9 t, pre]
    all_goals exact Nat.add_zero _
  all_goals blk_simp [idx9 t]

omit hq hk hv in
theorem idx10 : ∀ t : Fin cfg10.N, win10_0.index t = ![(grid10.coords t 0).val, 3, 0] ∧ win10_1.index t = ![(grid10.coords t 0).val, 0, 0] ∧
    win10_2.index t = ![(grid10.coords t 0).val, 0, 0] ∧ win10_3.index t = ![(grid10.coords t 0).val, 0, 0] :=
  (by decide +kernel : ∀ t : Fin grid10.N, _)

theorem exit10_o : exit 10 W c (Proc.devRef .tc main_v86) = part 1536 (by decide) (ctx q k v) := by
  refine (exit_arr 10 W c 3).trans ((Own.K10.dat (F := Ideal) (Ix := Unit) (U := UR sig nD τ) (Lvl := ℕ) Variants.none (V W) (fun _ => 0) c).arrAt_eq_of_covers
    3 _ (by decide +kernel) fun t _ y => ?_)
  blk_simp
  rw [Own.K10.after10_3]
  unfold Own.K10.outsAt10
  refine (congrFun (Attention.same10 ..) y).trans ?_
  refine (Attention.out4 (hP := by decide) (hB := by decide) (q := fun a => q (grid10.coords t 0) (tok 1536 (by decide) a)) (k := k (grid10.coords t 0)) (v := v (grid10.coords t 0))
    (fun a d => ?_) (fun a d => ?_) (fun a d => ?_) ..).trans (part_at (b := grid10.coords t 0) ?_ ?_ ?_)
  · blk_simp [Own.K10.iblk]
    refine (congrFun hq _).trans (cube_at (f := fun b l j => q b l j / 8) ?_ ?_ ?_) <;> blk_simp [idx10 t, tok]
    exact Nat.add_zero _
  · blk_simp [Own.K10.iblk]
    refine (congrFun hk _).trans (cube_at ?_ ?_ ?_) <;> blk_simp [idx10 t, pre]
    exact Nat.add_zero _
  · blk_simp [Own.K10.iblk]
    refine (congrFun hv _).trans (cube_at ?_ ?_ ?_) <;> blk_simp [idx10 t, pre]
    exact Nat.add_zero _
  all_goals blk_simp [idx10 t]

end

end Cert.KernelIdeal.Regions

end
-- ==== Proof.Feed.lean ====
/-
  What the two feed-forward calls leave in their arrays: every row out of its layer, given the row in, the attention's
  row and the weights.
-/
module

public import proofs.«01_k».proof.Proof.Run
public import proofs.«01_k».proof.Proof.Blocks
public import proofs.«01_k».proof.Proof.Arrays

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-- The two joined matrices of the gate. -/
structure Gates (X : S768x4096.Idx → EReal) (P : Params) : Prop where
  w1 : ∀ k (d : Fin 2048), X (ix2 k ⟨d, by omega⟩) = (P.w1 k d : EReal)
  w3 : ∀ k (d : Fin 2048), X (ix2 k ⟨2048 + d, by omega⟩) = (P.w3 k d : EReal)

variable (W : Vals Ideal) (c : Dev nD) {P : Params} {x o : Act}

/-! ## Layer 1 -/

theorem idx5 : ∀ t : Fin cfg5.N, win5_0.index t = ![(grid5.coords t 0).val, 0] ∧ win5_1.index t = ![(grid5.coords t 0).val, 0] ∧
    win5_2.index t = ![0, 0] ∧ win5_3.index t = ![0, 0] ∧ win5_4.index t = ![0, 0] ∧ win5_5.index t = ![0, 0] ∧
    win5_6.index t = ![(grid5.coords t 0).val, 0] :=
  (by decide +kernel : ∀ t : Fin grid5.N, _)

/-- Row `i` of point `t`'s block. -/
def row5 (t : Fin cfg5.N) (i : Fin 1024) : Fin 8192 :=
  ⟨grid5.coords t 0 * 1024 + i, by have : (grid5.coords t 0 : ℕ) < 8 := (grid5.coords t 0).isLt; omega⟩

theorem blk5_x (t : Fin cfg5.N) (i : Fin 1024) (d : Fin 768) :
    Own.K5.iblk (V W) c 0 t (ix2 i d) = W c (Proc.devRef .tc main_v6) (ix2 (row5 t i) d) := by blk_ext [Own.K5.iblk, V, idx5 t, row5]

theorem blk5_o (t : Fin cfg5.N) (i : Fin 1024) (d : Fin 768) :
    Own.K5.iblk (V W) c 1 t (ix2 i d) = W c (Proc.devRef .tc main_v45) (ix2 (row5 t i) d) := by blk_ext [Own.K5.iblk, V, idx5 t, row5]

theorem blk5_wo (t : Fin cfg5.N) (i : Fin 768) (d : Fin 768) :
    Own.K5.iblk (V W) c 2 t (ix2 i d) = W c (Proc.devRef .tc main_v48) (ix2 i d) := by blk_ext [Own.K5.iblk, V, idx5 t, row5]

theorem blk5_fn (t : Fin cfg5.N) (i : Fin 1) (d : Fin 768) :
    Own.K5.iblk (V W) c 3 t (ix2 i d) = W c (Proc.devRef .tc main_v51) (ix2 i d) := by blk_ext [Own.K5.iblk, V, idx5 t, row5]

theorem blk5_g (t : Fin cfg5.N) (i : Fin 768) (d : Fin 4096) :
    Own.K5.iblk (V W) c 4 t (ix2 i d) = W c (Proc.devRef .tc main_v44) (ix2 i d) := by blk_ext [Own.K5.iblk, V, idx5 t, row5]

theorem blk5_w2 (t : Fin cfg5.N) (i : Fin 2048) (d : Fin 768) :
    Own.K5.iblk (V W) c 5 t (ix2 i d) = W c (Proc.devRef .tc main_v54) (ix2 i d) := by blk_ext [Own.K5.iblk, V, idx5 t, row5]

theorem exit5_x (hx : W c (Proc.devRef .tc main_v6) = flat x) (ho : W c (Proc.devRef .tc main_v45) = flat o)
    (hwo : ∀ k d, W c (Proc.devRef .tc main_v48) (ix2 k d) = (P.wo k d : EReal)) (hn : ∀ d, W c (Proc.devRef .tc main_v51) (ix2 0 d) = (P.fn d : EReal))
    (hg : Gates (W c (Proc.devRef .tc main_v44)) P) (hw2 : ∀ k d, W c (Proc.devRef .tc main_v54) (ix2 k d) = (P.w2 k d : EReal)) :
    exit 5 W c (Proc.devRef .tc main_v55) = flat fun b l => ffn P (x b l) (o b l) := by
  refine (exit_arr 5 W c 6).trans ((Own.K5.dat (F := Ideal) (Ix := Unit) (U := UR sig nD τ) (Lvl := ℕ) Variants.none (V W) (fun _ => 0) c).arrAt_eq_of_covers
    6 _ (by decide +kernel) fun t _ y => ?_)
  blk_simp
  rw [Own.K5.after5_6]
  unfold Own.K5.outsAt5
  frame_out
  refine ((congrArg _ (eq_ix2 y)).trans (Blocks.feed P (x := x (rb (row5 t (y 0))) (rl (row5 t (y 0)))) (o := o (rb (row5 t (y 0))) (rl (row5 t (y 0))))
    (fun d => (blk5_x W c t _ d).trans (congrFun hx _)) (fun d => (blk5_o W c t _ d).trans (congrFun ho _)) (fun k d => (blk5_wo W c t k d).trans (hwo k d))
    (fun d => (blk5_fn W c t 0 d).trans (hn d)) (fun k d => (blk5_g W c t k _).trans (hg.w1 k d)) (fun k d => (blk5_g W c t k _).trans (hg.w3 k d))
    (fun k d => (blk5_w2 W c t k d).trans (hw2 k d)) (y 1))).trans (flat_at (f := fun b l => ffn P (x b l) (o b l)) ?_ ?_).symm
  · blk_simp [idx5 t]; simp only [rb, rl, row5]; omega
  · blk_simp [idx5 t]

/-! ## Layer 2 -/

theorem idx11 : ∀ t : Fin cfg11.N, win11_0.index t = ![(grid11.coords t 0).val, 0] ∧ win11_1.index t = ![(grid11.coords t 0).val, 0] ∧
    win11_2.index t = ![0, 0] ∧ win11_3.index t = ![0, 0] ∧ win11_4.index t = ![0, 0] ∧ win11_5.index t = ![0, 0] ∧
    win11_6.index t = ![(grid11.coords t 0).val, 0] :=
  (by decide +kernel : ∀ t : Fin grid11.N, _)

/-- Row `i` of point `t`'s block. -/
def row11 (t : Fin cfg11.N) (i : Fin 1024) : Fin 8192 :=
  ⟨grid11.coords t 0 * 1024 + i, by have : (grid11.coords t 0 : ℕ) < 8 := (grid11.coords t 0).isLt; omega⟩

theorem blk11_x (t : Fin cfg11.N) (i : Fin 1024) (d : Fin 768) :
    Own.K11.iblk (V W) c 0 t (ix2 i d) = W c (Proc.devRef .tc main_v55) (ix2 (row11 t i) d) := by blk_ext [Own.K11.iblk, V, idx11 t, row11]

theorem blk11_o (t : Fin cfg11.N) (i : Fin 1024) (d : Fin 768) :
    Own.K11.iblk (V W) c 1 t (ix2 i d) = W c (Proc.devRef .tc main_v94) (ix2 (row11 t i) d) := by blk_ext [Own.K11.iblk, V, idx11 t, row11]

theorem blk11_wo (t : Fin cfg11.N) (i : Fin 768) (d : Fin 768) :
    Own.K11.iblk (V W) c 2 t (ix2 i d) = W c (Proc.devRef .tc main_v97) (ix2 i d) := by blk_ext [Own.K11.iblk, V, idx11 t, row11]

theorem blk11_fn (t : Fin cfg11.N) (i : Fin 1) (d : Fin 768) :
    Own.K11.iblk (V W) c 3 t (ix2 i d) = W c (Proc.devRef .tc main_v100) (ix2 i d) := by blk_ext [Own.K11.iblk, V, idx11 t, row11]

theorem blk11_g (t : Fin cfg11.N) (i : Fin 768) (d : Fin 4096) :
    Own.K11.iblk (V W) c 4 t (ix2 i d) = W c (Proc.devRef .tc main_v93) (ix2 i d) := by blk_ext [Own.K11.iblk, V, idx11 t, row11]

theorem blk11_w2 (t : Fin cfg11.N) (i : Fin 2048) (d : Fin 768) :
    Own.K11.iblk (V W) c 5 t (ix2 i d) = W c (Proc.devRef .tc main_v103) (ix2 i d) := by blk_ext [Own.K11.iblk, V, idx11 t, row11]

theorem exit11_x (hx : W c (Proc.devRef .tc main_v55) = flat x) (ho : W c (Proc.devRef .tc main_v94) = flat o)
    (hwo : ∀ k d, W c (Proc.devRef .tc main_v97) (ix2 k d) = (P.wo k d : EReal)) (hn : ∀ d, W c (Proc.devRef .tc main_v100) (ix2 0 d) = (P.fn d : EReal))
    (hg : Gates (W c (Proc.devRef .tc main_v93)) P) (hw2 : ∀ k d, W c (Proc.devRef .tc main_v103) (ix2 k d) = (P.w2 k d : EReal)) :
    exit 11 W c (Proc.devRef .tc main_v104) = flat fun b l => ffn P (x b l) (o b l) := by
  refine (exit_arr 11 W c 6).trans ((Own.K11.dat (F := Ideal) (Ix := Unit) (U := UR sig nD τ) (Lvl := ℕ) Variants.none (V W) (fun _ => 0) c).arrAt_eq_of_covers
    6 _ (by decide +kernel) fun t _ y => ?_)
  blk_simp
  rw [Own.K11.after11_6]
  unfold Own.K11.outsAt11
  frame_out
  refine ((congrArg _ (eq_ix2 y)).trans (Blocks.feed P (x := x (rb (row11 t (y 0))) (rl (row11 t (y 0)))) (o := o (rb (row11 t (y 0))) (rl (row11 t (y 0))))
    (fun d => (blk11_x W c t _ d).trans (congrFun hx _)) (fun d => (blk11_o W c t _ d).trans (congrFun ho _)) (fun k d => (blk11_wo W c t k d).trans (hwo k d))
    (fun d => (blk11_fn W c t 0 d).trans (hn d)) (fun k d => (blk11_g W c t k _).trans (hg.w1 k d)) (fun k d => (blk11_g W c t k _).trans (hg.w3 k d))
    (fun k d => (blk11_w2 W c t k d).trans (hw2 k d)) (y 1))).trans (flat_at (f := fun b l => ffn P (x b l) (o b l)) ?_ ?_).symm
  · blk_simp [idx11 t]; simp only [rb, rl, row11]; omega
  · blk_simp [idx11 t]

end Cert.KernelIdeal.Regions

end
-- ==== Proof.Host.lean ====
/-
  What the host stretches between the calls leave in the calls' operands: the arrays re-shaped, the weights of a layer
  cut out, rotated and joined, the attention quarters joined.
-/
module

public import proofs.«01_k».proof.Proof.Qkv
public import proofs.«01_k».proof.Proof.AttnCalls
public import proofs.«01_k».proof.Proof.Feed
public import Idealize.ShloMosaic.Lib.Claim
public import Idealize.ShloMosaic.Lib.Pointwise

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-! ## Joined matrices -/

section
variable {A B C D E : FVec Ideal S768x768 .f32} (k : Fin 768) (d : Fin 768)

/-- Five matrices side by side. -/
abbrev cat5 (A B C D E : FVec Ideal S768x768 .f32) : FVec Ideal S768x3840 .f32 :=
  concatenate S768x3840 1 [⟨S768x768, A⟩, ⟨S768x768, B⟩, ⟨S768x768, C⟩, ⟨S768x768, D⟩, ⟨S768x768, E⟩]
    concatenates_S768x768_S768x768_S768x768_S768x768_S768x768_S768x3840_d1

theorem cat5_0 : cat5 A B C D E (ix2 k ⟨d, by omega⟩) = A (ix2 k d) := by
  pointwise [cat5]
  repeat' split
  all_goals first | omega | exact congrArg _ (congrArg (ix2 k) (Fin.ext (by dsimp only; omega)))

theorem cat5_1 : cat5 A B C D E (ix2 k ⟨768 + d, by omega⟩) = B (ix2 k d) := by
  pointwise [cat5]
  repeat' split
  all_goals first | omega | exact congrArg _ (congrArg (ix2 k) (Fin.ext (by dsimp only; omega)))

theorem cat5_2 : cat5 A B C D E (ix2 k ⟨1536 + d, by omega⟩) = C (ix2 k d) := by
  pointwise [cat5]
  repeat' split
  all_goals first | omega | exact congrArg _ (congrArg (ix2 k) (Fin.ext (by dsimp only; omega)))

theorem cat5_3 : cat5 A B C D E (ix2 k ⟨2304 + d, by omega⟩) = D (ix2 k d) := by
  pointwise [cat5]
  repeat' split
  all_goals first | omega | exact congrArg _ (congrArg (ix2 k) (Fin.ext (by dsimp only; omega)))

theorem cat5_4 : cat5 A B C D E (ix2 k ⟨3072 + d, by omega⟩) = E (ix2 k d) := by
  pointwise [cat5]
  repeat' split
  all_goals first | omega | exact congrArg _ (congrArg (ix2 k) (Fin.ext (by dsimp only; omega)))

/-- Every head's columns rotated. -/
abbrev rotw (A : FVec Ideal S768x768 .f32) : FVec Ideal S768x768 .f32 :=
  shapeCast S768x768 (concatenate S768x12x64 2
    [⟨S768x12x32, Host.negf (extractStridedSlice S768x12x32 ![0, 0, 32] (shapeCast S768x12x64 A shapeCasts_S768x768_S768x12x64) slices_S768x12x64_S768x12x32_0_0_32)⟩,
     ⟨S768x12x32, extractStridedSlice S768x12x32 ![0, 0, 0] (shapeCast S768x12x64 A shapeCasts_S768x768_S768x12x64) slices_S768x12x64_S768x12x32_0_0_0⟩]
    concatenates_S768x12x32_S768x12x32_S768x12x64_d2) shapeCasts_S768x12x64_S768x768

theorem rotated {w : Fin 768 → Fin 768 → ℝ} (h : ∀ k d, A (ix2 k d) = (w k d : EReal)) : rotw A (ix2 k d) = (rot (w k) d : EReal) := by
  pointwise [rotw]
  unfold rot
  split
  · rw [h, EReal.coe_neg]; congr 3; exact Fin.ext (by dsimp only; omega)
  · rw [h]; congr 2; exact Fin.ext (by dsimp only; omega)

/-- The joined weights of the projections. -/
theorem joined {P : Params} (hq : ∀ k d, A (ix2 k d) = (P.wq k d : EReal)) (hk : ∀ k d, C (ix2 k d) = (P.wk k d : EReal))
    (hv : ∀ k d, E (ix2 k d) = (P.wv k d : EReal)) : Joined (truncf .bf16 (cat5 A (rotw A) C (rotw C) E) bitsLt_bf16_f32) P where
  q k d := (cat5_0 k d).trans (hq k d)
  q' k d := (cat5_1 k d).trans (rotated k d hq)
  k k d := (cat5_2 k d).trans (hk k d)
  k' k d := (cat5_3 k d).trans (rotated k d hk)
  v k d := (cat5_4 k d).trans (hv k d)

/-- The joined weights of the gate. -/
theorem gates {A B : FVec Ideal S768x2048 .f32} {P : Params} (h1 : ∀ k d, A (ix2 k d) = (P.w1 k d : EReal)) (h3 : ∀ k d, B (ix2 k d) = (P.w3 k d : EReal)) :
    Gates (truncf .bf16 (concatenate S768x4096 1 [⟨S768x2048, A⟩, ⟨S768x2048, B⟩] concatenates_S768x2048_S768x2048_S768x4096_d1) bitsLt_bf16_f32) P where
  w1 k d := by pointwise []; exact h1 k d
  w3 k d := by pointwise []; exact h3 k d

end

/-! ## Activations -/

/-- The four quarters joined. -/
theorem quarters {A B C D : FVec Ideal S4x512x768 .bf16} {f : Act} (hA : A = part 0 (by decide) f) (hB : B = part 512 (by decide) f)
    (hC : C = part 1024 (by decide) f) (hD : D = part 1536 (by decide) f) :
    (concatenate S4x2048x768 1 [⟨S4x512x768, A⟩, ⟨S4x512x768, B⟩, ⟨S4x512x768, C⟩, ⟨S4x512x768, D⟩]
      concatenates_S4x512x768_S4x512x768_S4x512x768_S4x512x768_S4x2048x768_d1 : S4x2048x768.Idx → EReal) = cube f := by
  funext r
  obtain ⟨b, l, d, rfl⟩ : ∃ (b : Fin 4) (l : Fin 2048) (d : Fin 768), r = ix3 b l d := ⟨r 0, r 1, r 2, eq_ix3 r⟩
  pointwise []
  rw [hA, hB, hC, hD]
  have e : ∀ {p : ℕ} {hp : p + 512 ≤ 2048} {a : Fin 512}, p + a = (l : ℕ) → part p hp f (ix3 b a d) = cube f (ix3 b l d) := fun h =>
    congrArg (fun i => (f b i d : EReal)) (Fin.ext h)
  repeat' split
  all_goals exact e (by dsimp only; omega)

theorem flatten (f : Act) : (shapeCast S8192x768 (cube f) shapeCasts_S4x2048x768_S8192x768 : S8192x768.Idx → EReal) = flat f := by
  funext r
  obtain ⟨a, d, rfl⟩ : ∃ (a : Fin 8192) (d : Fin 768), r = ix2 a d := ⟨r 0, r 1, eq_ix2 r⟩
  pointwise []
  rfl

theorem unflatten (f : Act) : (shapeCast S4x2048x768 (flat f) shapeCasts_S8192x768_S4x2048x768 : S4x2048x768.Idx → EReal) = cube f := by
  funext r
  obtain ⟨b, l, d, rfl⟩ : ∃ (b : Fin 4) (l : Fin 2048) (d : Fin 768), r = ix3 b l d := ⟨r 0, r 1, r 2, eq_ix3 r⟩
  pointwise []
  exact flat_at rfl rfl

/-! ## The stretches -/

/-- A line's first `n` operations and its others. -/
theorem after_split (n : ℕ) : (l : List (HloOp τ sig (Elt Ideal))) → (σ : Valuation τ sig (Elt Ideal)) →
    StableHlo.after l σ = StableHlo.after (l.drop n) (StableHlo.after (l.take n) σ) := by
  induction n with
  | zero => exact fun _ _ => rfl
  | succ n ih => exact fun l σ => match l with
    | [] => rfl
    | op :: l => ih l _

variable (σ : Valuation τ sig (Elt Ideal)) {x q k v : Act} {P : Params}

/-- Layer `i`'s weights as the valuation holds them. -/
structure Weights (i : Fin 2) (P : Params) : Prop where
  an : ∀ d, (σ (Proc.devRef .tc main_arg3) : Vec Ideal S2x768 .f32) (ix2 i d) = (P.an d : EReal)
  wq : ∀ k d, (σ (Proc.devRef .tc main_arg4) : Vec Ideal S2x768x768 .f32) (ix3 i k d) = (P.wq k d : EReal)
  wk : ∀ k d, (σ (Proc.devRef .tc main_arg5) : Vec Ideal S2x768x768 .f32) (ix3 i k d) = (P.wk k d : EReal)
  wv : ∀ k d, (σ (Proc.devRef .tc main_arg6) : Vec Ideal S2x768x768 .f32) (ix3 i k d) = (P.wv k d : EReal)
  wo : ∀ k d, (σ (Proc.devRef .tc main_arg7) : Vec Ideal S2x768x768 .f32) (ix3 i k d) = (P.wo k d : EReal)
  fn : ∀ d, (σ (Proc.devRef .tc main_arg8) : Vec Ideal S2x768 .f32) (ix2 i d) = (P.fn d : EReal)
  w1 : ∀ k d, (σ (Proc.devRef .tc main_arg9) : Vec Ideal S2x768x2048 .f32) (ix3 i k d) = (P.w1 k d : EReal)
  w2 : ∀ k d, (σ (Proc.devRef .tc main_arg10) : Vec Ideal S2x2048x768 .f32) (ix3 i k d) = (P.w2 k d : EReal)
  w3 : ∀ k d, (σ (Proc.devRef .tc main_arg11) : Vec Ideal S2x768x2048 .f32) (ix3 i k d) = (P.w3 k d : EReal)

theorem host0_x (h : σ (Proc.devRef .tc main_arg0) = cube x) : StableHlo.after hostOps0 σ (Proc.devRef .tc main_v6) = flat x := by
  entry_read
  rw [h]
  exact flatten x

theorem host0_c (h : ∀ l d, (σ (Proc.devRef .tc main_arg1) : Vec Ideal S2048x64 .f32) (ix2 l d) = (P.cos l d : EReal)) (l : Fin 2048) (d : Fin 768) :
    (StableHlo.after hostOps0 σ (Proc.devRef .tc main_v2) : Vec Ideal S2048x768 .f32) (ix2 l d) = (P.cos l (hr d) : EReal) := by
  entry_read
  pointwise []
  exact h l (hr d)

theorem host0_s (h : ∀ l d, (σ (Proc.devRef .tc main_arg2) : Vec Ideal S2048x64 .f32) (ix2 l d) = (P.sin l d : EReal)) (l : Fin 2048) (d : Fin 768) :
    (StableHlo.after hostOps0 σ (Proc.devRef .tc main_v5) : Vec Ideal S2048x768 .f32) (ix2 l d) = (P.sin l (hr d) : EReal) := by
  entry_read
  pointwise []
  exact h l (hr d)

/-! ### Layer 1 -/

theorem host0_n (h : Weights σ 0 P) (d : Fin 768) :
    (StableHlo.after hostOps0 σ (Proc.devRef .tc main_v29) : Vec Ideal S1x768 .f32) (ix2 0 d) = (P.an d : EReal) := by
  entry_read
  pointwise []
  exact h.an d

theorem host0_cat : StableHlo.after hostOps0 σ (Proc.devRef .tc main_v26) =
    truncf .bf16 (cat5 (StableHlo.after (List.take 25 hostOps0) σ (Proc.devRef .tc main_v8)) (StableHlo.after (List.take 25 hostOps0) σ (Proc.devRef .tc main_v16))
      (StableHlo.after (List.take 25 hostOps0) σ (Proc.devRef .tc main_v10)) (StableHlo.after (List.take 25 hostOps0) σ (Proc.devRef .tc main_v22))
      (StableHlo.after (List.take 25 hostOps0) σ (Proc.devRef .tc main_v24))) bitsLt_bf16_f32 := by
  rw [after_split 25 hostOps0]
  generalize StableHlo.after (List.take 25 hostOps0) σ = σ'
  simp only [hostOps0, List.drop_succ_cons, List.drop_zero]
  entry_read
  rfl

theorem host0_w (h : Weights σ 0 P) : Joined (StableHlo.after hostOps0 σ (Proc.devRef .tc main_v26)) P := by
  rw [host0_cat]
  simp only [hostOps0, List.take_succ_cons, List.take_zero]
  entry_read
  refine joined (fun k d => ?_) (fun k d => ?_) (fun k d => ?_) <;> pointwise []
  · exact h.wq k d
  · exact h.wk k d
  · exact h.wv k d

theorem host1_v31 (h : σ (Proc.devRef .tc main_v30_0) = flat x) : StableHlo.after hostOps1 σ (Proc.devRef .tc main_v31) = cube x := by
  entry_read
  rw [h]
  exact unflatten x

theorem host1_v32 (h : σ (Proc.devRef .tc main_v30_1) = flat x) : StableHlo.after hostOps1 σ (Proc.devRef .tc main_v32) = cube x := by
  entry_read
  rw [h]
  exact unflatten x

theorem host1_v33 (h : σ (Proc.devRef .tc main_v30_2) = flat x) : StableHlo.after hostOps1 σ (Proc.devRef .tc main_v33) = cube x := by
  entry_read
  rw [h]
  exact unflatten x

theorem host5_o (h0 : σ (Proc.devRef .tc main_v34) = part 0 (by decide) x) (h1 : σ (Proc.devRef .tc main_v35) = part 512 (by decide) x)
    (h2 : σ (Proc.devRef .tc main_v36) = part 1024 (by decide) x) (h3 : σ (Proc.devRef .tc main_v37) = part 1536 (by decide) x) :
    StableHlo.after hostOps5 σ (Proc.devRef .tc main_v45) = flat x := by
  entry_read
  exact (congrArg (shapeCast S8192x768 · shapeCasts_S4x2048x768_S8192x768) (quarters h0 h1 h2 h3)).trans (flatten x)

theorem host5_wo (h : Weights σ 0 P) (k d : Fin 768) :
    (StableHlo.after hostOps5 σ (Proc.devRef .tc main_v48) : Vec Ideal S768x768 .bf16) (ix2 k d) = (P.wo k d : EReal) := by
  entry_read
  pointwise []
  exact h.wo k d

theorem host5_n (h : Weights σ 0 P) (d : Fin 768) :
    (StableHlo.after hostOps5 σ (Proc.devRef .tc main_v51) : Vec Ideal S1x768 .f32) (ix2 0 d) = (P.fn d : EReal) := by
  entry_read
  pointwise []
  exact h.fn d

theorem host5_g (h : Weights σ 0 P) : Gates (StableHlo.after hostOps5 σ (Proc.devRef .tc main_v44)) P := by
  entry_read
  refine gates (fun k d => ?_) (fun k d => ?_) <;> pointwise []
  · exact h.w1 k d
  · exact h.w3 k d

theorem host5_w2 (h : Weights σ 0 P) (k : Fin 2048) (d : Fin 768) :
    (StableHlo.after hostOps5 σ (Proc.devRef .tc main_v54) : Vec Ideal S2048x768 .bf16) (ix2 k d) = (P.w2 k d : EReal) := by
  entry_read
  pointwise []
  exact h.w2 k d

/-! ### Layer 2 -/

theorem host6_n (h : Weights σ 1 P) (d : Fin 768) :
    (StableHlo.after hostOps6 σ (Proc.devRef .tc main_v78) : Vec Ideal S1x768 .f32) (ix2 0 d) = (P.an d : EReal) := by
  entry_read
  pointwise []
  exact h.an d

theorem host6_cat : StableHlo.after hostOps6 σ (Proc.devRef .tc main_v75) =
    truncf .bf16 (cat5 (StableHlo.after (List.take 18 hostOps6) σ (Proc.devRef .tc main_v57)) (StableHlo.after (List.take 18 hostOps6) σ (Proc.devRef .tc main_v65))
      (StableHlo.after (List.take 18 hostOps6) σ (Proc.devRef .tc main_v59)) (StableHlo.after (List.take 18 hostOps6) σ (Proc.devRef .tc main_v71))
      (StableHlo.after (List.take 18 hostOps6) σ (Proc.devRef .tc main_v73))) bitsLt_bf16_f32 := by
  rw [after_split 18 hostOps6]
  generalize StableHlo.after (List.take 18 hostOps6) σ = σ'
  simp only [hostOps6, List.drop_succ_cons, List.drop_zero]
  entry_read
  rfl

theorem host6_w (h : Weights σ 1 P) : Joined (StableHlo.after hostOps6 σ (Proc.devRef .tc main_v75)) P := by
  rw [host6_cat]
  simp only [hostOps6, List.take_succ_cons, List.take_zero]
  entry_read
  refine joined (fun k d => ?_) (fun k d => ?_) (fun k d => ?_) <;> pointwise []
  · exact h.wq k d
  · exact h.wk k d
  · exact h.wv k d

theorem host7_v80 (h : σ (Proc.devRef .tc main_v79_0) = flat x) : StableHlo.after hostOps7 σ (Proc.devRef .tc main_v80) = cube x := by
  entry_read
  rw [h]
  exact unflatten x

theorem host7_v81 (h : σ (Proc.devRef .tc main_v79_1) = flat x) : StableHlo.after hostOps7 σ (Proc.devRef .tc main_v81) = cube x := by
  entry_read
  rw [h]
  exact unflatten x

theorem host7_v82 (h : σ (Proc.devRef .tc main_v79_2) = flat x) : StableHlo.after hostOps7 σ (Proc.devRef .tc main_v82) = cube x := by
  entry_read
  rw [h]
  exact unflatten x

theorem host11_o (h0 : σ (Proc.devRef .tc main_v83) = part 0 (by decide) x) (h1 : σ (Proc.devRef .tc main_v84) = part 512 (by decide) x)
    (h2 : σ (Proc.devRef .tc main_v85) = part 1024 (by decide) x) (h3 : σ (Proc.devRef .tc main_v86) = part 1536 (by decide) x) :
    StableHlo.after hostOps11 σ (Proc.devRef .tc main_v94) = flat x := by
  entry_read
  exact (congrArg (shapeCast S8192x768 · shapeCasts_S4x2048x768_S8192x768) (quarters h0 h1 h2 h3)).trans (flatten x)

theorem host11_wo (h : Weights σ 1 P) (k d : Fin 768) :
    (StableHlo.after hostOps11 σ (Proc.devRef .tc main_v97) : Vec Ideal S768x768 .bf16) (ix2 k d) = (P.wo k d : EReal) := by
  entry_read
  pointwise []
  exact h.wo k d

theorem host11_n (h : Weights σ 1 P) (d : Fin 768) :
    (StableHlo.after hostOps11 σ (Proc.devRef .tc main_v100) : Vec Ideal S1x768 .f32) (ix2 0 d) = (P.fn d : EReal) := by
  entry_read
  pointwise []
  exact h.fn d

theorem host11_g (h : Weights σ 1 P) : Gates (StableHlo.after hostOps11 σ (Proc.devRef .tc main_v93)) P := by
  entry_read
  refine gates (fun k d => ?_) (fun k d => ?_) <;> pointwise []
  · exact h.w1 k d
  · exact h.w3 k d

theorem host11_w2 (h : Weights σ 1 P) (k : Fin 2048) (d : Fin 768) :
    (StableHlo.after hostOps11 σ (Proc.devRef .tc main_v103) : Vec Ideal S2048x768 .bf16) (ix2 k d) = (P.w2 k d : EReal) := by
  entry_read
  pointwise []
  exact h.w2 k d

end Cert.KernelIdeal.Regions

end
-- ==== Proof.Last.lean ====
/-
  What the last call leaves in its arrays: every row normed and weighted, and of those every sixteenth once more.
-/
module

public import proofs.«01_k».proof.Proof.Run
public import proofs.«01_k».proof.Proof.Blocks
public import proofs.«01_k».proof.Proof.Arrays

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

/-- A stored row is the row of the block at its slice's offset. -/
theorem picked {o : ℕ} {sl : S1024x768.Slices ![o, 0] S1x768} {v : FVec Ideal S1024x768 .f32} (x : S1x768.Idx) (y : S64x768.Idx) (h0 : o = 16 * y 0)
    (h1 : (y 1 : ℕ) = x 1) :
    shapeCast S1x768 (shapeCast S768 (extractStridedSlice S1x768 ![o, 0] v sl) shapeCasts_S1x768_S768) shapeCasts_S768_S1x768 x
      = v (ix2 ⟨16 * y 0, by have : (y 0 : ℕ) < 64 := (y 0).isLt; omega⟩ (y 1)) := by
  pointwise []
  exact congrArg v (congrArg₂ ix2 (Fin.ext h0) (Fin.ext h1.symm))

variable (W : Vals Ideal) (c : Dev nD) {x : Act}

theorem idx12 : ∀ t : Fin cfg12.N, win12_0.index t = ![(grid12.coords t 0).val, 0] ∧ win12_1.index t = ![0, 0] ∧
    win12_2.index t = ![(grid12.coords t 0).val, 0] ∧ win12_3.index t = ![(grid12.coords t 0).val, 0] :=
  (by decide +kernel : ∀ t : Fin grid12.N, _)

/-- Row `i` of point `t`'s block. -/
def row12 (t : Fin cfg12.N) (i : Fin 1024) : Fin 8192 :=
  ⟨grid12.coords t 0 * 1024 + i, by have : (grid12.coords t 0 : ℕ) < 8 := (grid12.coords t 0).isLt; omega⟩

theorem blk12_x (t : Fin cfg12.N) (i : Fin 1024) (d : Fin 768) :
    Own.K12.iblk (V W) c 0 t (ix2 i d) = W c (Proc.devRef .tc main_v104) (ix2 (row12 t i) d) := by blk_ext [Own.K12.iblk, V, idx12 t, row12]

theorem blk12_n (t : Fin cfg12.N) (i : Fin 1) (d : Fin 768) :
    Own.K12.iblk (V W) c 1 t (ix2 i d) = W c (Proc.devRef .tc main_v105) (ix2 i d) := by blk_ext [Own.K12.iblk, V, idx12 t]

/-- Each row over the root of its mean square, times the weights. -/
def normed (x : Act) (w : S1x768.Idx → EReal) (r : Fin 8192) (j : Fin 768) : EReal := (unit (x (rb r) (rl r)) j : EReal) * w (ix2 0 j)

section
variable (hx : W c (Proc.devRef .tc main_v104) = flat x)
include hx

theorem pay12 (t : Fin cfg12.N) (i : Fin 1024) (j : Fin 768) :
    k12_pay1 (Own.K12.iblk (V W) c 0 t) (Own.K12.iblk (V W) c 1 t) (ix2 i j) = normed x (W c (Proc.devRef .tc main_v105)) (row12 t i) j :=
  (Blocks.last (fun d => (blk12_x W c t i d).trans (congrFun hx _)) j).trans (congrArg _ (blk12_n W c t 0 j))

theorem exit12_x : exit 12 W c (Proc.devRef .tc main_v106_0) = fun r : S8192x768.Idx => normed x (W c (Proc.devRef .tc main_v105)) (r 0) (r 1) := by
  refine (exit_arr 12 W c 2).trans ((Own.K12.dat (F := Ideal) (Ix := Unit) (U := UR sig nD τ) (Lvl := ℕ) Variants.none (V W) (fun _ => 0) c).arrAt_eq_of_covers
    2 _ (by decide +kernel) fun t _ y => ?_)
  blk_simp
  rw [Own.K12.after12_2]
  unfold Own.K12.outsAt12
  frame_out
  refine ((congrArg _ (eq_ix2 y)).trans (pay12 W c hx t (y 0) (y 1))).trans (congrArg₂ (normed x _) (Fin.ext ?_) (Fin.ext ?_))
  · blk_simp [idx12 t]; rfl
  · blk_simp [idx12 t]

/-- The compressed rows: the stores of a block, one for each sixteenth row. -/
theorem exit12_c : exit 12 W c (Proc.devRef .tc main_v106_1) =
    fun r : S512x768.Idx => normed x (W c (Proc.devRef .tc main_v105)) ⟨16 * r 0, by have : (r 0 : ℕ) < 512 := (r 0).isLt; omega⟩ (r 1) := by
  refine (exit_arr 12 W c 3).trans ((Own.K12.dat (F := Ideal) (Ix := Unit) (U := UR sig nD τ) (Lvl := ℕ) Variants.none (V W) (fun _ => 0) c).arrAt_eq_of_covers
    3 _ (by decide +kernel) fun t _ y => ?_)
  blk_simp
  rw [Own.K12.after12_3]
  refine Eq.trans (b := k12_pay1 (Own.K12.iblk (V W) c 0 t) (Own.K12.iblk (V W) c 1 t) (ix2 ⟨16 * y 0, by have : (y 0 : ℕ) < 64 := (y 0).isLt; omega⟩ (y 1))) ?_
    ((pay12 W c hx t _ (y 1)).trans (congrArg₂ (normed x _) (Fin.ext ?_) (Fin.ext ?_)))
  · unfold Own.K12.outsAt12
    frame_out
    canon_tiles x h
    all_goals try dsimp only [k12_pay13, k12_pay14, k12_pay29, k12_pay30, k12_pay45, k12_pay46, k12_pay61, k12_pay62]
    all_goals (refine picked x y ?_ ?_ <;> omega)
  · blk_simp [idx12 t]; simp only [row12]; omega
  · blk_simp [idx12 t]

end

end Cert.KernelIdeal.Regions

end
-- ==== Proof.Values.lean ====
/-
  The kernel's buffers between the items of @main, at a launch whose arguments are real numbers: the activations after
  each layer, and the results.
-/
module

public import proofs.«01_k».proof.Proof.Host
public import proofs.«01_k».proof.Proof.Last

@[expose] public section

set_option maxRecDepth 16384

noncomputable section

namespace Cert.KernelIdeal.Regions

open Cert.KernelIdeal Cert.KernelIdeal.Gen Cert.KernelIdeal.Run
open Idealize.ShloMosaic Idealize.ShloMosaic.TcCoe Cert.Net

variable (m : (ℓ : Loc nD τ sig) → Buf (Elt Ideal) ℓ) (c : Dev nD)

/-! ## Buffers that stay -/

theorem stay_tables2 : ∀ b ∈ ([main_v2, main_v5] : List (Ref sig .tc)), ∀ w : Fin cfg0.W, Pipeline.arrRef spec0 w = b → (cfg0.win w).isOut = false :=
  ListAll.forall_mem_of_all_decide (by decide +kernel)
theorem stay_tables3 : ∀ b ∈ ([main_v2, main_v5] : List (Ref sig .tc)), b ∉ hostOps1_W := ListAll.forall_mem_of_all_decide (by decide +kernel)
theorem stay_tables4 : ∀ b ∈ ([main_v2, main_v5] : List (Ref sig .tc)), ∀ w : Fin cfg1.W, Pipeline.arrRef spec1 w = b → (cfg1.win w).isOut = false :=
  ListAll.forall_mem_of_all_decide (by decide +kernel)
theorem stay_tables5 : ∀ b ∈ ([main_v2, main_v5] : List (Ref sig .tc)), ∀ w : Fin cfg2.W, Pipeline.arrRef spec2 w = b → (cfg2.win w).isOut = false :=
  ListAll.forall_mem_of_all_decide (by decide +kernel)
theorem stay_tables6 : ∀ b ∈ ([main_v2, main_v5] : List (Ref sig .tc)), ∀ w : Fin cfg3.W, Pipeline.arrRef spec3 w = b → (cfg3.win w).isOut = false :=
  ListAll.forall_mem_of_all_decide (by decide +kernel)
theorem stay_tables7 : ∀ b ∈ ([main_v2, main_v5] : List (Ref sig .tc)), ∀ w : Fin cfg4.W, Pipeline.arrRef spec4 w = b → (cfg4.win w).isOut = false :=
  ListAll.forall_mem_of_all_decide (by decide +kernel)
theorem stay_tables8 : ∀ b ∈ ([main_v2, main_v5] : List (Ref sig .tc)), b ∉ hostOps5_W := ListAll.forall_mem_of_all_decide (by decide +kernel)
theorem stay_tables9 : ∀ b ∈ ([main_v2, main_v5] : List (Ref sig .tc)), ∀ w : Fin cfg5.W, Pipeline.arrRef spec5 w = b → (cfg5.win w).isOut = false :=
  ListAll.forall_mem_of_all_decide (by decide +kernel)
theorem stay_tables10 : ∀ b ∈ ([main_v2, main_v5] : List (Ref sig .tc)), b ∉ hostOps6_W := ListAll.forall_mem_of_all_decide (by decide +kernel)
theorem keep_tables2 (b : Ref sig .tc) (hb : b ∈ ([main_v2, main_v5] : List (Ref sig .tc))) : W2 m c (Proc.devRef .tc b) = W1 m c (Proc.devRef .tc b) :=
  (exit_of 0 (W1 m) c b (stay_tables2 b hb))
theorem keep_tables3 (b : Ref sig .tc) (hb : b ∈ ([main_v2, main_v5] : List (Ref sig .tc))) : W3 m c (Proc.devRef .tc b) = W1 m c (Proc.devRef .tc b) :=
  (StableHlo.after_of_writes_sub hostOps1 _ hostOps1_writes (stay_tables3 b hb)).trans (keep_tables2 m c b hb)
theorem keep_tables4 (b : Ref sig .tc) (hb : b ∈ ([main_v2, main_v5] : List (Ref sig .tc))) : W4 m c (Proc.devRef .tc b) = W1 m c (Proc.devRef .tc b) :=
  (exit_of 1 (W3 m) c b (stay_tables4 b hb)).trans (keep_tables3 m c b hb)
theorem keep_tables5 (b : Ref sig .tc) (hb : b ∈ ([main_v2, main_v5] : List (Ref sig .tc))) : W5 m c (Proc.devRef .tc b) = W1 m c (Proc.devRef .tc b) :=
  (exit_of 2 (W4 m) c b (stay_tables5 b hb)).trans (keep_tables4 m c b hb)
theorem keep_tables6 (b : Ref sig .tc) (hb : b ∈ ([main_v2, main_v5] : List (Ref sig .tc))) : W6 m c (Proc.devRef .tc b) = W1 m c (Proc.devRef .tc b) :=
  (exit_of 3 (W5 m) c b (stay_tables6 b hb)).trans (keep_tables5 m c b hb)
theorem keep_tables7 (b : Ref sig .tc) (hb : b ∈ ([main_v2, main_v5] : List (Ref sig .tc))) : W7 m c (Proc.devRef .tc b) = W1 m c (Proc.devRef .tc b) :=
  (exit_of 4 (W6 m) c b (stay_tables7 b hb)).trans (keep_tables6 m c b hb)
theorem keep_tables8 (b : Ref sig .tc) (hb : b ∈ ([main_v2, main_v5] : List (Ref sig .tc))) : W8 m c (Proc.devRef .tc b) = W1 m c (Proc.devRef .tc b) :=
  (StableHlo.after_of_writes_sub hostOps5 _ hostOps5_writes (stay_tables8 b hb)).trans (keep_tables7 m c b hb)
theorem keep_tables9 (b : Ref sig .tc) (hb : b ∈ ([main_v2, main_v5] : List (Ref sig .tc))) : W9 m c (Proc.devRef .tc b) = W1 m c (Proc.devRef .tc b) :=
  (exit_of 5 (W8 m) c b (stay_tables9 b hb)).trans (keep_tables8 m c b hb)
theorem keep_tables10 (b : Ref sig .tc) (hb : b ∈ ([main_v2, main_v5] : List (Ref sig .tc))) : W10 m c (Proc.devRef .tc b) = W1 m c (Proc.devRef .tc b) :=
  (StableHlo.after_of_writes_sub hostOps6 _ hostOps6_writes (stay_tables10 b hb)).trans (keep_tables9 m c b hb)

theorem stay_input2 : ∀ b ∈ ([main_v6] : List (Ref sig .tc)), ∀ w : Fin cfg0.W, Pipeline.arrRef spec0 w = b → (cfg0.win w).isOut = false :=
  ListAll.forall_mem_of_all_decide (by decide +kernel)
theorem stay_input3 : ∀ b ∈ ([main_v6] : List (Ref sig .tc)), b ∉ hostOps1_W := ListAll.forall_mem_of_all_decide (by decide +kernel)
theorem stay_input4 : ∀ b ∈ ([main_v6] : List (Ref sig .tc)), ∀ w : Fin cfg1.W, Pipeline.arrRef spec1 w = b → (cfg1.win w).isOut = false :=
  ListAll.forall_mem_of_all_decide (by decide +kernel)
theorem stay_input5 : ∀ b ∈ ([main_v6] : List (Ref sig .tc)), ∀ w : Fin cfg2.W, Pipeline.arrRef spec2 w = b → (cfg2.win w).isOut = false :=
  ListAll.forall_mem_of_all_decide (by decide +kernel)
theorem stay_input6 : ∀ b ∈ ([main_v6] : List (Ref sig .tc)), ∀ w : Fin cfg3.W, Pipeline.arrRef spec3 w = b → (cfg3.win w).isOut = false :=
  ListAll.forall_mem_of_all_decide (by decide +kernel)
theorem stay_input7 : ∀ b ∈ ([main_v6] : List (Ref sig .tc)), ∀ w : Fin cfg4.W, Pipeline.arrRef spec4 w = b → (cfg4.win w).isOut = false :=
  ListAll.forall_mem_of_all_decide (by decide +kernel)
theorem stay_input8 : ∀ b ∈ ([main_v6] : List (Ref sig .tc)), b ∉ hostOps5_W := ListAll.forall_mem_of_all_decide (by decide +kernel)
theorem keep_input2 (b : Ref sig .tc) (hb : b ∈ ([main_v6] : List (Ref sig .tc))) : W2 m c (Proc.devRef .tc b) = W1 m c (Proc.devRef .tc b) :=
  (exit_of 0 (W1 m) c b (stay_input2 b hb))
theorem keep_input3 (b : Ref sig .tc) (hb : b ∈ ([main_v6] : List (Ref sig .tc))) : W3 m c (Proc.devRef .tc b) = W1 m c (Proc.devRef .tc b) :=
  (StableHlo.after_of_writes_sub hostOps1 _ hostOps1_writes (stay_input3 b hb)).trans (keep_input2 m c b hb)
theorem keep_input4 (b : Ref sig .tc) (hb : b ∈ ([main_v6] : List (Ref sig .tc))) : W4 m c (Proc.devRef .tc b) = W1 m c (Proc.devRef .tc b) :=
  (exit_of 1 (W3 m) c b (stay_input4 b hb)).trans (keep_input3 m c b hb)
theorem keep_input5 (b : Ref sig .tc) (hb : b ∈ ([main_v6] : List (Ref sig .tc))) : W5 m c (Proc.devRef .tc b) = W1 m c (Proc.devRef .tc b) :=
  (exit_of 2 (W4 m) c b (stay_input5 b hb)).trans (keep_input4 m c b hb)
theorem keep_input6 (b : Ref sig .tc) (hb : b ∈ ([main_v6] : List (Ref sig .tc))) : W6 m c (Proc.devRef .tc b) = W1 m c (Proc.devRef .tc b) :=
  (exit_of 3 (W5 m) c b (stay_input6 b hb)).trans (keep_input5 m c b hb)
theorem keep_input7 (b : Ref sig .tc) (hb : b ∈ ([main_v6] : List (Ref sig .tc))) : W7 m c (Proc.devRef .tc b) = W1 m c (Proc.devRef .tc b) :=
  (exit_of 4 (W6 m) c b (stay_input7 b hb)).trans (keep_input6 m c b hb)
theorem keep_input8 (b : Ref sig .tc) (hb : b ∈ ([main_v6] : List (Ref sig .tc))) : W8 m c (Proc.devRef .tc b) = W1 m c (Proc.devRef .tc b) :=
  (StableHlo.after_of_writes_sub hostOps5 _ hostOps5_writes (stay_input8 b hb)).trans (keep_input7 m c b hb)

theorem stay_proj14 : ∀ b ∈ ([main_v31, main_v32, main_v33] : List (Ref sig .tc)), ∀ w : Fin cfg1.W, Pipeline.arrRef spec1 w = b → (cfg1.win w).isOut = false :=
  ListAll.forall_mem_of_all_decide (by decide +kernel)
theorem stay_proj15 : ∀ b ∈ ([main_v31, main_v32, main_v33] : List (Ref sig .tc)), ∀ w : Fin cfg2.W, Pipeline.arrRef spec2 w = b → (cfg2.win w).isOut = false :=
  ListAll.forall_mem_of_all_decide (by decide +kernel)
theorem stay_proj16 : ∀ b ∈ ([main_v31, main_v32, main_v33] : List (Ref sig .tc)), ∀ w : Fin cfg3.W, Pipeline.arrRef spec3 w = b → (cfg3.win w).isOut = false :=
  ListAll.forall_mem_of_all_decide (by decide +kernel)
theorem keep_proj14 (b : Ref sig .tc) (hb : b ∈ ([main_v31, main_v32, main_v33] : List (Ref sig .tc))) : W4 m c (Proc.devRef .tc b) = W3 m c (Proc.devRef .tc b) :=
  (exit_of 1 (W3 m) c b (stay_proj14 b hb))
theorem keep_proj15 (b : Ref sig .tc) (hb : b ∈ ([main_v31, main_v32, main_v33] : List (Ref sig .tc))) : W5 m c (Proc.devRef .tc b) = W3 m c (Proc.devRef .tc b) :=
  (exit_of 2 (W4 m) c b (stay_proj15 b hb)).trans (keep_proj14 m c b hb)
theorem keep_proj16 (b : Ref sig .tc) (hb : b ∈ ([main_v31, main_v32, main_v33] : List (Ref sig .tc))) : W6 m c (Proc.devRef .tc b) = W3 m c (Proc.devRef .tc b) :=
  (exit_of 3 (W5 m) c b (stay_proj16 b hb)).trans (keep_proj15 m c b hb)

theorem stay_first15 : ∀ b ∈ ([main_v34] : List (Ref sig .tc)), ∀ w : Fin cfg2.W, Pipeline.arrRef spec2 w = b → (cfg2.win w).isOut = false :=
  ListAll.forall_mem_of_all_decide (by decide +kernel)
theorem stay_first16 : ∀ b ∈ ([main_v34] : List (Ref sig .tc)), ∀ w : Fin cfg3.W, Pipeline.arrRef spec3 w = b → (cfg3.win w).isOut = false :=
  ListAll.forall_mem_of_all_decide (by decide +kernel)
theorem stay_first17 : ∀ b ∈ ([main_v34] : List (Ref sig .tc)), ∀ w : Fin cfg4.W, Pipeline.arrRef spec4 w = b → (cfg4.win w).isOut = false :=
  ListAll.forall_mem_of_all_decide (by decide +kernel)
theorem keep_first15 (b : Ref sig .tc) (hb : b ∈ ([main_v34] : List (Ref sig .tc))) : W5 m c (Proc.devRef .tc b) = W4 m c (Proc.devRef .tc b) :=
  (exit_of 2 (W4 m) c b (stay_first15 b hb))
theorem keep_first16 (b : Ref sig .tc) (hb : b ∈ ([main_v34] : List (Ref sig .tc))) : W6 m c (Proc.devRef .tc b) = W4 m c (Proc.devRef .tc b) :=
  (exit_of 3 (W5 m) c b (stay_first16 b hb)).trans (keep_first15 m c b hb)
theorem keep_first17 (b : Ref sig .tc) (hb : b ∈ ([main_v34] : List (Ref sig .tc))) : W7 m c (Proc.devRef .tc b) = W4 m c (Proc.devRef .tc b) :=
  (exit_of 4 (W6 m) c b (stay_first17 b hb)).trans (keep_first16 m c b hb)

theorem stay_second16 : ∀ b ∈ ([main_v35] : List (Ref sig .tc)), ∀ w : Fin cfg3.W, Pipeline.arrRef spec3 w = b → (cfg3.win w).isOut = false :=
  ListAll.forall_mem_of_all_decide (by decide +kernel)
theorem stay_second17 : ∀ b ∈ ([main_v35] : List (Ref sig .tc)), ∀ w : Fin cfg4.W, Pipeline.arrRef spec4 w = b → (cfg4.win w).isOut = false :=
  ListAll.forall_mem_of_all_decide (by decide +kernel)
theorem keep_second16 (b : Ref sig .tc) (hb : b ∈ ([main_v35] : List (Ref sig .tc))) : W6 m c (Proc.devRef .tc b) = W5 m c (Proc.devRef .tc b) :=
  (exit_of 3 (W5 m) c b (stay_second16 b hb))
theorem keep_second17 (b : Ref sig .tc) (hb : b ∈ ([main_v35] : List (Ref sig .tc))) : W7 m c (Proc.devRef .tc b) = W5 m c (Proc.devRef .tc b) :=
  (exit_of 4 (W6 m) c b (stay_second17 b hb)).trans (keep_second16 m c b hb)

theorem stay_third17 : ∀ b ∈ ([main_v36] : List (Ref sig .tc)), ∀ w : Fin cfg4.W, Pipeline.arrRef spec4 w = b → (cfg4.win w).isOut = false :=
  ListAll.forall_mem_of_all_decide (by decide +kernel)
theorem keep_third17 (b : Ref sig .tc) (hb : b ∈ ([main_v36] : List (Ref sig .tc))) : W7 m c (Proc.devRef .tc b) = W6 m c (Proc.devRef .tc b) :=
  (exit_of 4 (W6 m) c b (stay_third17 b hb))

theorem stay_middle10 : ∀ b ∈ ([main_v55] : List (Ref sig .tc)), b ∉ hostOps6_W := ListAll.forall_mem_of_all_decide (by decide +kernel)
theorem stay_middle11 : ∀ b ∈ ([main_v55] : List (Ref sig .tc)), ∀ w : Fin cfg6.W, Pipeline.arrRef spec6 w = b → (cfg6.win w).isOut = false :=
  ListAll.forall_mem_of_all_decide (by decide +kernel)
theorem stay_middle12 : ∀ b ∈ ([main_v55] : List (Ref sig .tc)), b ∉ hostOps7_W := ListAll.forall_mem_of_all_decide (by decide +kernel)
theorem stay_middle13 : ∀ b ∈ ([main_v55] : List (Ref sig .tc)), ∀ w : Fin cfg7.W, Pipeline.arrRef spec7 w = b → (cfg7.win w).isOut = false :=
  ListAll.forall_mem_of_all_decide (by decide +kernel)
theorem stay_middle14 : ∀ b ∈ ([main_v55] : List (Ref sig .tc)), ∀ w : Fin cfg8.W, Pipeline.arrRef spec8 w = b → (cfg8.win w).isOut = false :=
  ListAll.forall_mem_of_all_decide (by decide +kernel)
theorem stay_middle15 : ∀ b ∈ ([main_v55] : List (Ref sig .tc)), ∀ w : Fin cfg9.W, Pipeline.arrRef spec9 w = b → (cfg9.win w).isOut = false :=
  ListAll.forall_mem_of_all_decide (by decide +kernel)
theorem stay_middle16 : ∀ b ∈ ([main_v55] : List (Ref sig .tc)), ∀ w : Fin cfg10.W, Pipeline.arrRef spec10 w = b → (cfg10.win w).isOut = false :=
  ListAll.forall_mem_of_all_decide (by decide +kernel)
theorem stay_middle17 : ∀ b ∈ ([main_v55] : List (Ref sig .tc)), b ∉ hostOps11_W := ListAll.forall_mem_of_all_decide (by decide +kernel)
theorem keep_middle10 (b : Ref sig .tc) (hb : b ∈ ([main_v55] : List (Ref sig .tc))) : W10 m c (Proc.devRef .tc b) = W9 m c (Proc.devRef .tc b) :=
  (StableHlo.after_of_writes_sub hostOps6 _ hostOps6_writes (stay_middle10 b hb))
theorem keep_middle11 (b : Ref sig .tc) (hb : b ∈ ([main_v55] : List (Ref sig .tc))) : W11 m c (Proc.devRef .tc b) = W9 m c (Proc.devRef .tc b) :=
  (exit_of 6 (W10 m) c b (stay_middle11 b hb)).trans (keep_middle10 m c b hb)
theorem keep_middle12 (b : Ref sig .tc) (hb : b ∈ ([main_v55] : List (Ref sig .tc))) : W12 m c (Proc.devRef .tc b) = W9 m c (Proc.devRef .tc b) :=
  (StableHlo.after_of_writes_sub hostOps7 _ hostOps7_writes (stay_middle12 b hb)).trans (keep_middle11 m c b hb)
theorem keep_middle13 (b : Ref sig .tc) (hb : b ∈ ([main_v55] : List (Ref sig .tc))) : W13 m c (Proc.devRef .tc b) = W9 m c (Proc.devRef .tc b) :=
  (exit_of 7 (W12 m) c b (stay_middle13 b hb)).trans (keep_middle12 m c b hb)
theorem keep_middle14 (b : Ref sig .tc) (hb : b ∈ ([main_v55] : List (Ref sig .tc))) : W14 m c (Proc.devRef .tc b) = W9 m c (Proc.devRef .tc b) :=
  (exit_of 8 (W13 m) c b (stay_middle14 b hb)).trans (keep_middle13 m c b hb)
theorem keep_middle15 (b : Ref sig .tc) (hb : b ∈ ([main_v55] : List (Ref sig .tc))) : W15 m c (Proc.devRef .tc b) = W9 m c (Proc.devRef .tc b) :=
  (exit_of 9 (W14 m) c b (stay_middle15 b hb)).trans (keep_middle14 m c b hb)
theorem keep_middle16 (b : Ref sig .tc) (hb : b ∈ ([main_v55] : List (Ref sig .tc))) : W16 m c (Proc.devRef .tc b) = W9 m c (Proc.devRef .tc b) :=
  (exit_of 10 (W15 m) c b (stay_middle16 b hb)).trans (keep_middle15 m c b hb)
theorem keep_middle17 (b : Ref sig .tc) (hb : b ∈ ([main_v55] : List (Ref sig .tc))) : W17 m c (Proc.devRef .tc b) = W9 m c (Proc.devRef .tc b) :=
  (StableHlo.after_of_writes_sub hostOps11 _ hostOps11_writes (stay_middle17 b hb)).trans (keep_middle16 m c b hb)

theorem stay_proj213 : ∀ b ∈ ([main_v80, main_v81, main_v82] : List (Ref sig .tc)), ∀ w : Fin cfg7.W, Pipeline.arrRef spec7 w = b → (cfg7.win w).isOut = false :=
  ListAll.forall_mem_of_all_decide (by decide +kernel)
theorem stay_proj214 : ∀ b ∈ ([main_v80, main_v81, main_v82] : List (Ref sig .tc)), ∀ w : Fin cfg8.W, Pipeline.arrRef spec8 w = b → (cfg8.win w).isOut = false :=
  ListAll.forall_mem_of_all_decide (by decide +kernel)
theorem stay_proj215 : ∀ b ∈ ([main_v80, main_v81, main_v82] : List (Ref sig .tc)), ∀ w : Fin cfg9.W, Pipeline.arrRef spec9 w = b → (cfg9.win w).isOut = false :=
  ListAll.forall_mem_of_all_decide (by decide +kernel)
theorem keep_proj213 (b : Ref sig .tc) (hb : b ∈ ([main_v80, main_v81, main_v82] : List (Ref sig .tc))) : W13 m c (Proc.devRef .tc b) = W12 m c (Proc.devRef .tc b) :=
  (exit_of 7 (W12 m) c b (stay_proj213 b hb))
theorem keep_proj214 (b : Ref sig .tc) (hb : b ∈ ([main_v80, main_v81, main_v82] : List (Ref sig .tc))) : W14 m c (Proc.devRef .tc b) = W12 m c (Proc.devRef .tc b) :=
  (exit_of 8 (W13 m) c b (stay_proj214 b hb)).trans (keep_proj213 m c b hb)
theorem keep_proj215 (b : Ref sig .tc) (hb : b ∈ ([main_v80, main_v81, main_v82] : List (Ref sig .tc))) : W15 m c (Proc.devRef .tc b) = W12 m c (Proc.devRef .tc b) :=
  (exit_of 9 (W14 m) c b (stay_proj215 b hb)).trans (keep_proj214 m c b hb)

theorem stay_first214 : ∀ b ∈ ([main_v83] : List (Ref sig .tc)), ∀ w : Fin cfg8.W, Pipeline.arrRef spec8 w = b → (cfg8.win w).isOut = false :=
  ListAll.forall_mem_of_all_decide (by decide +kernel)
theorem stay_first215 : ∀ b ∈ ([main_v83] : List (Ref sig .tc)), ∀ w : Fin cfg9.W, Pipeline.arrRef spec9 w = b → (cfg9.win w).isOut = false :=
  ListAll.forall_mem_of_all_decide (by decide +kernel)
theorem stay_first216 : ∀ b ∈ ([main_v83] : List (Ref sig .tc)), ∀ w : Fin cfg10.W, Pipeline.arrRef spec10 w = b → (cfg10.win w).isOut = false :=
  ListAll.forall_mem_of_all_decide (by decide +kernel)
theorem keep_first214 (b : Ref sig .tc) (hb : b ∈ ([main_v83] : List (Ref sig .tc))) : W14 m c (Proc.devRef .tc b) = W13 m c (Proc.devRef .tc b) :=
  (exit_of 8 (W13 m) c b (stay_first214 b hb))
theorem keep_first215 (b : Ref sig .tc) (hb : b ∈ ([main_v83] : List (Ref sig .tc))) : W15 m c (Proc.devRef .tc b) = W13 m c (Proc.devRef .tc b) :=
  (exit_of 9 (W14 m) c b (stay_first215 b hb)).trans (keep_first214 m c b hb)
theorem keep_first216 (b : Ref sig .tc) (hb : b ∈ ([main_v83] : List (Ref sig .tc))) : W16 m c (Proc.devRef .tc b) = W13 m c (Proc.devRef .tc b) :=
  (exit_of 10 (W15 m) c b (stay_first216 b hb)).trans (keep_first215 m c b hb)

theorem stay_second215 : ∀ b ∈ ([main_v84] : List (Ref sig .tc)), ∀ w : Fin cfg9.W, Pipeline.arrRef spec9 w = b → (cfg9.win w).isOut = false :=
  ListAll.forall_mem_of_all_decide (by decide +kernel)
theorem stay_second216 : ∀ b ∈ ([main_v84] : List (Ref sig .tc)), ∀ w : Fin cfg10.W, Pipeline.arrRef spec10 w = b → (cfg10.win w).isOut = false :=
  ListAll.forall_mem_of_all_decide (by decide +kernel)
theorem keep_second215 (b : Ref sig .tc) (hb : b ∈ ([main_v84] : List (Ref sig .tc))) : W15 m c (Proc.devRef .tc b) = W14 m c (Proc.devRef .tc b) :=
  (exit_of 9 (W14 m) c b (stay_second215 b hb))
theorem keep_second216 (b : Ref sig .tc) (hb : b ∈ ([main_v84] : List (Ref sig .tc))) : W16 m c (Proc.devRef .tc b) = W14 m c (Proc.devRef .tc b) :=
  (exit_of 10 (W15 m) c b (stay_second216 b hb)).trans (keep_second215 m c b hb)

theorem stay_third216 : ∀ b ∈ ([main_v85] : List (Ref sig .tc)), ∀ w : Fin cfg10.W, Pipeline.arrRef spec10 w = b → (cfg10.win w).isOut = false :=
  ListAll.forall_mem_of_all_decide (by decide +kernel)
theorem keep_third216 (b : Ref sig .tc) (hb : b ∈ ([main_v85] : List (Ref sig .tc))) : W16 m c (Proc.devRef .tc b) = W15 m c (Proc.devRef .tc b) :=
  (exit_of 10 (W15 m) c b (stay_third216 b hb))

theorem stay_end19 : ∀ b ∈ ([main_v104] : List (Ref sig .tc)), b ∉ hostOps12_W := ListAll.forall_mem_of_all_decide (by decide +kernel)
theorem keep_end19 (b : Ref sig .tc) (hb : b ∈ ([main_v104] : List (Ref sig .tc))) : W19 m c (Proc.devRef .tc b) = W18 m c (Proc.devRef .tc b) :=
  (StableHlo.after_of_writes_sub hostOps12 _ hostOps12_writes (stay_end19 b hb))

/-! ## The layers -/

/-- The arguments at launch: the input, the tables and both layers' weights are these reals. -/
structure Launch (x : Act) (P₀ P₁ : Params) : Prop where
  x : W0 m c (Proc.devRef .tc main_arg0) = cube x
  c₀ : ∀ l d, (W0 m c (Proc.devRef .tc main_arg1) : Vec Ideal S2048x64 .f32) (ix2 l d) = (P₀.cos l d : EReal)
  s₀ : ∀ l d, (W0 m c (Proc.devRef .tc main_arg2) : Vec Ideal S2048x64 .f32) (ix2 l d) = (P₀.sin l d : EReal)
  w₀ : Weights (W0 m c) 0 P₀
  c₁ : P₁.cos = P₀.cos
  s₁ : P₁.sin = P₀.sin
  w₁ : Weights (W0 m c) 1 P₁

theorem weights7 {i : Fin 2} {P : Params} (h : Weights (W0 m c) i P) : Weights (W7 m c) i P where
  an d := (congrFun (args7 m c main_arg3 (by decide)) _).trans (h.an d)
  wq k d := (congrFun (args7 m c main_arg4 (by decide)) _).trans (h.wq k d)
  wk k d := (congrFun (args7 m c main_arg5 (by decide)) _).trans (h.wk k d)
  wv k d := (congrFun (args7 m c main_arg6 (by decide)) _).trans (h.wv k d)
  wo k d := (congrFun (args7 m c main_arg7 (by decide)) _).trans (h.wo k d)
  fn d := (congrFun (args7 m c main_arg8 (by decide)) _).trans (h.fn d)
  w1 k d := (congrFun (args7 m c main_arg9 (by decide)) _).trans (h.w1 k d)
  w2 k d := (congrFun (args7 m c main_arg10 (by decide)) _).trans (h.w2 k d)
  w3 k d := (congrFun (args7 m c main_arg11 (by decide)) _).trans (h.w3 k d)

theorem weights9 {i : Fin 2} {P : Params} (h : Weights (W0 m c) i P) : Weights (W9 m c) i P where
  an d := (congrFun (args9 m c main_arg3 (by decide)) _).trans (h.an d)
  wq k d := (congrFun (args9 m c main_arg4 (by decide)) _).trans (h.wq k d)
  wk k d := (congrFun (args9 m c main_arg5 (by decide)) _).trans (h.wk k d)
  wv k d := (congrFun (args9 m c main_arg6 (by decide)) _).trans (h.wv k d)
  wo k d := (congrFun (args9 m c main_arg7 (by decide)) _).trans (h.wo k d)
  fn d := (congrFun (args9 m c main_arg8 (by decide)) _).trans (h.fn d)
  w1 k d := (congrFun (args9 m c main_arg9 (by decide)) _).trans (h.w1 k d)
  w2 k d := (congrFun (args9 m c main_arg10 (by decide)) _).trans (h.w2 k d)
  w3 k d := (congrFun (args9 m c main_arg11 (by decide)) _).trans (h.w3 k d)

theorem weights16 {i : Fin 2} {P : Params} (h : Weights (W0 m c) i P) : Weights (W16 m c) i P where
  an d := (congrFun (args16 m c main_arg3 (by decide)) _).trans (h.an d)
  wq k d := (congrFun (args16 m c main_arg4 (by decide)) _).trans (h.wq k d)
  wk k d := (congrFun (args16 m c main_arg5 (by decide)) _).trans (h.wk k d)
  wv k d := (congrFun (args16 m c main_arg6 (by decide)) _).trans (h.wv k d)
  wo k d := (congrFun (args16 m c main_arg7 (by decide)) _).trans (h.wo k d)
  fn d := (congrFun (args16 m c main_arg8 (by decide)) _).trans (h.fn d)
  w1 k d := (congrFun (args16 m c main_arg9 (by decide)) _).trans (h.w1 k d)
  w2 k d := (congrFun (args16 m c main_arg10 (by decide)) _).trans (h.w2 k d)
  w3 k d := (congrFun (args16 m c main_arg11 (by decide)) _).trans (h.w3 k d)

variable {x : Act} {P₀ P₁ : Params} (h : Launch m c x P₀ P₁)
include h

theorem x1 : W1 m c (Proc.devRef .tc main_v6) = flat x := host0_x _ h.x

theorem c1 (l : Fin 2048) (d : Fin 768) : W1 m c (Proc.devRef .tc main_v2) (ix2 l d) = (P₀.cos l (hr d) : EReal) := host0_c _ h.c₀ l d

theorem s1 (l : Fin 2048) (d : Fin 768) : W1 m c (Proc.devRef .tc main_v5) (ix2 l d) = (P₀.sin l (hr d) : EReal) := host0_s _ h.s₀ l d

theorem q3 : W3 m c (Proc.devRef .tc main_v31) = cube fun b l j => qrow P₀ x b l j / 8 :=
  host1_v31 _ (exit0_q (W1 m) c (x1 m c h) (host0_n _ h.w₀) (host0_w _ h.w₀) (c1 m c h) (s1 m c h))

theorem k3 : W3 m c (Proc.devRef .tc main_v32) = cube (krow P₀ x) :=
  host1_v32 _ (exit0_k (W1 m) c (x1 m c h) (host0_n _ h.w₀) (host0_w _ h.w₀) (c1 m c h) (s1 m c h))

theorem v3 : W3 m c (Proc.devRef .tc main_v33) = cube (vrow P₀ x) :=
  host1_v33 _ (exit0_v (W1 m) c (x1 m c h) (host0_n _ h.w₀) (host0_w _ h.w₀))

theorem o8 : W8 m c (Proc.devRef .tc main_v45) = flat (orow P₀ x) :=
  host5_o (x := ctx (qrow P₀ x) (krow P₀ x) (vrow P₀ x)) _
    ((keep_first17 m c main_v34 (by decide)).trans (exit1_o (W3 m) c (q3 m c h) (k3 m c h) (v3 m c h)))
    ((keep_second17 m c main_v35 (by decide)).trans (exit2_o (W4 m) c ((keep_proj14 m c main_v31 (by decide)).trans (q3 m c h))
      ((keep_proj14 m c main_v32 (by decide)).trans (k3 m c h)) ((keep_proj14 m c main_v33 (by decide)).trans (v3 m c h))))
    ((keep_third17 m c main_v36 (by decide)).trans (exit3_o (W5 m) c ((keep_proj15 m c main_v31 (by decide)).trans (q3 m c h))
      ((keep_proj15 m c main_v32 (by decide)).trans (k3 m c h)) ((keep_proj15 m c main_v33 (by decide)).trans (v3 m c h))))
    (exit4_o (W6 m) c ((keep_proj16 m c main_v31 (by decide)).trans (q3 m c h))
      ((keep_proj16 m c main_v32 (by decide)).trans (k3 m c h)) ((keep_proj16 m c main_v33 (by decide)).trans (v3 m c h)))

theorem x9 : W9 m c (Proc.devRef .tc main_v55) = flat (layer P₀ x) :=
  exit5_x (W8 m) c ((keep_input8 m c main_v6 (by decide)).trans (x1 m c h)) (o8 m c h) (host5_wo _ (weights7 m c h.w₀)) (host5_n _ (weights7 m c h.w₀))
    (host5_g _ (weights7 m c h.w₀)) (host5_w2 _ (weights7 m c h.w₀))

theorem x10 : W10 m c (Proc.devRef .tc main_v55) = flat (layer P₀ x) := (keep_middle10 m c main_v55 (by decide)).trans (x9 m c h)

theorem c10 (l : Fin 2048) (d : Fin 768) : W10 m c (Proc.devRef .tc main_v2) (ix2 l d) = (P₁.cos l (hr d) : EReal) := by
  rw [h.c₁]; exact (congrFun (keep_tables10 m c main_v2 (by decide)) _).trans (c1 m c h l d)

theorem s10 (l : Fin 2048) (d : Fin 768) : W10 m c (Proc.devRef .tc main_v5) (ix2 l d) = (P₁.sin l (hr d) : EReal) := by
  rw [h.s₁]; exact (congrFun (keep_tables10 m c main_v5 (by decide)) _).trans (s1 m c h l d)

theorem q12 : W12 m c (Proc.devRef .tc main_v80) = cube fun b l j => qrow P₁ (layer P₀ x) b l j / 8 :=
  host7_v80 _ (exit6_q (W10 m) c (x10 m c h) (host6_n _ (weights9 m c h.w₁)) (host6_w _ (weights9 m c h.w₁)) (c10 m c h) (s10 m c h))

theorem k12 : W12 m c (Proc.devRef .tc main_v81) = cube (krow P₁ (layer P₀ x)) :=
  host7_v81 _ (exit6_k (W10 m) c (x10 m c h) (host6_n _ (weights9 m c h.w₁)) (host6_w _ (weights9 m c h.w₁)) (c10 m c h) (s10 m c h))

theorem v12 : W12 m c (Proc.devRef .tc main_v82) = cube (vrow P₁ (layer P₀ x)) :=
  host7_v82 _ (exit6_v (W10 m) c (x10 m c h) (host6_n _ (weights9 m c h.w₁)) (host6_w _ (weights9 m c h.w₁)))

theorem o17 : W17 m c (Proc.devRef .tc main_v94) = flat (orow P₁ (layer P₀ x)) :=
  host11_o (x := ctx (qrow P₁ (layer P₀ x)) (krow P₁ (layer P₀ x)) (vrow P₁ (layer P₀ x))) _
    ((keep_first216 m c main_v83 (by decide)).trans (exit7_o (W12 m) c (q12 m c h) (k12 m c h) (v12 m c h)))
    ((keep_second216 m c main_v84 (by decide)).trans (exit8_o (W13 m) c ((keep_proj213 m c main_v80 (by decide)).trans (q12 m c h))
      ((keep_proj213 m c main_v81 (by decide)).trans (k12 m c h)) ((keep_proj213 m c main_v82 (by decide)).trans (v12 m c h))))
    ((keep_third216 m c main_v85 (by decide)).trans (exit9_o (W14 m) c ((keep_proj214 m c main_v80 (by decide)).trans (q12 m c h))
      ((keep_proj214 m c main_v81 (by decide)).trans (k12 m c h)) ((keep_proj214 m c main_v82 (by decide)).trans (v12 m c h))))
    (exit10_o (W15 m) c ((keep_proj215 m c main_v80 (by decide)).trans (q12 m c h))
      ((keep_proj215 m c main_v81 (by decide)).trans (k12 m c h)) ((keep_proj215 m c main_v82 (by decide)).trans (v12 m c h)))

/-- The activations after both layers. -/
theorem x18 : W18 m c (Proc.devRef .tc main_v104) = flat (layer P₁ (layer P₀ x)) :=
  exit11_x (W17 m) c ((keep_middle17 m c main_v55 (by decide)).trans (x9 m c h)) (o17 m c h) (host11_wo _ (weights16 m c h.w₁)) (host11_n _ (weights16 m c h.w₁))
    (host11_g _ (weights16 m c h.w₁)) (host11_w2 _ (weights16 m c h.w₁))

/-! ## The results -/

/-- The rows out, in terms of the activations and the last norm's weights. -/
theorem row20 (b : Fin 4) (l : Fin 2048) (j : Fin 768) {r : Fin 8192} (hr : (r : ℕ) = b * 2048 + l) :
    normed (layer P₁ (layer P₀ x)) (W19 m c (Proc.devRef .tc main_v105)) r j
      = (unit (layer P₁ (layer P₀ x) b l) j : EReal) * (m ((c : Thread nD τ).loc main_arg12) : Vec Ideal S768 .f32) (ix1 j) := by
  have e0 : rb r = b := Fin.ext (by simp only [rb]; omega)
  have e1 : rl r = l := Fin.ext (by simp only [rl]; omega)
  unfold normed
  rw [e0, e1]
  refine congrArg (_ * ·) ?_
  rw [← args18 m c main_arg12 (by decide)]
  unfold W19
  entry_read
  pointwise []

theorem out21 (b : Fin 4) (l : Fin 2048) (j : Fin 768) :
    (W21 m c (Proc.devRef .tc main_v107) : Vec Ideal S4x2048x768 .f32) (ix3 b l j)
      = (unit (layer P₁ (layer P₀ x) b l) j : EReal) * (m ((c : Thread nD τ).loc main_arg12) : Vec Ideal S768 .f32) (ix1 j) := by
  unfold W21
  entry_read
  rw [show W20 m c (Proc.devRef .tc main_v106_0) = _ from exit12_x (W19 m) c ((keep_end19 m c main_v104 (by decide)).trans (x18 m c h))]
  pointwise []
  exact row20 m c h b l j rfl

theorem picked21 (b : Fin 4) (s : Fin 128) (j : Fin 768) :
    (W21 m c (Proc.devRef .tc main_v108) : Vec Ideal S4x128x768 .f32) (ix3 b s j)
      = (unit (layer P₁ (layer P₀ x) b ⟨16 * s, by omega⟩) j : EReal) * (m ((c : Thread nD τ).loc main_arg12) : Vec Ideal S768 .f32) (ix1 j) := by
  unfold W21
  entry_read
  rw [show W20 m c (Proc.devRef .tc main_v106_1) = _ from exit12_c (W19 m) c ((keep_end19 m c main_v104 (by decide)).trans (x18 m c h))]
  pointwise []
  exact row20 m c h b _ j (by dsimp only; omega)

omit h

theorem start21 (b : Fin 4) (s : Fin 128) : (W21 m c (Proc.devRef .tc main_v115) : Vec Ideal S4x128 .i32) (ix2 b s) = 16#32 * BitVec.ofNat 32 s := by
  unfold W21
  entry_read
  pointwise []
  exact BitVec.zero_add _

theorem count21 : W21 m c (Proc.devRef .tc main_v116) = fun _ => 128#32 := by
  unfold W21
  entry_read
  rfl

theorem mean21 : W21 m c (Proc.devRef .tc main_cst) = constant (F := Ideal) S_ .f32 0x41800000#32 := by
  unfold W21
  entry_read
  rfl

end Cert.KernelIdeal.Regions

end
-- ==== Proof.Finite.lean ====
/-
  The precondition: every argument but the last norm's weights holds real numbers.
-/
module

public import proofs.«01_k».proof.Pre_finite
public import proofs.«01_k».proof.Proof.Values
public import Idealize.ShloMosaic.Lib.ReduceAll

@[expose] public section

set_option maxRecDepth 16384

noncomputable section

namespace Cert.Pre_finite

open Idealize.ShloMosaic

instance facts : Facts where
  bcast_S_S4x2048x768 := by decide
  reducesTo_S4x2048x768_S_d0_1_2 := by decide
  h_S_ := by decide
  bcast_S_S2048x64 := by decide
  reducesTo_S2048x64_S_d0_1 := by decide
  bcast_S_S2x768 := by decide
  reducesTo_S2x768_S_d0_1 := by decide
  bcast_S_S2x768x768 := by decide
  reducesTo_S2x768x768_S_d0_1_2 := by decide
  bcast_S_S2x768x2048 := by decide
  reducesTo_S2x768x2048_S_d0_1_2 := by decide
  bcast_S_S2x2048x768 := by decide
  reducesTo_S2x2048x768_S_d0_1_2 := by decide

theorem w_top : Ideal.ofBits .f32 0x7F800000#32 = ⊤ := by
  simp [Ideal.ofBits, Ideal.ieee]

/-- Below infinity in size: a real number. -/
theorem real_of_lt {x : EReal} (h : Ideal.cmp .olt (max x (-x)) (Ideal.ofBits .f32 0x7F800000#32) = 1#1) : ∃ r : ℝ, x = (r : EReal) := by
  rw [w_top] at h
  induction x with
  | bot => simp [Ideal.cmp] at h
  | top => simp [Ideal.cmp] at h
  | coe r => exact ⟨r, rfl⟩

/-- One argument's conjunct. -/
theorem reals {s : Shape} {axes : List (Fin s.rank)} {x : FVec Ideal s .f32} {hb : S_.BroadcastsInDim s (![] : Fin 0 → Fin s.rank)}
    {hr : s.ReducesTo axes S_} {hu : 0 < S_.numel} {j : S_.Idx}
    (e : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  haveI : Subsingleton S_.Idx := ⟨fun a b => funext fun k => k.elim0⟩
  real_of_lt (Host.reduce_andi_all _ _ hr hu j e i)

theorem both {x y : IVec S_ 1} {j : S_.Idx} (h : andi x y j = 1#1) : x j = 1#1 ∧ y j = 1#1 := IntOp.andi_eq_one.1 h

variable {a0 : FVec Ideal S4x2048x768 .f32} {a1 a2 : FVec Ideal S2048x64 .f32} {a3 : FVec Ideal S2x768 .f32}
  {a4 a5 a6 a7 : FVec Ideal S2x768x768 .f32} {a8 : FVec Ideal S2x768 .f32} {a9 : FVec Ideal S2x768x2048 .f32}
  {a10 : FVec Ideal S2x2048x768 .f32} {a11 : FVec Ideal S2x768x2048 .f32} {a12 : FVec Ideal S768 .f32}

theorem finite {j : S_.Idx} (h : fn a0 a1 a2 a3 a4 a5 a6 a7 a8 a9 a10 a11 a12 j = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) ∧ (∀ i, ∃ r : ℝ, a11 i = (r : EReal)) := by
  unfold fn fn_part1 fn_part2 fn_part3 at h
  dsimp only at h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨reals h0, reals h1, reals h2, reals h3, reals h4, reals h5, reals h6, reals h7, reals h8, reals h9, reals h10, reals h11⟩

end Cert.Pre_finite

namespace Cert.KernelIdeal.Regions

open Cert.KernelIdeal Cert.KernelIdeal.Gen Cert.KernelIdeal.Run
open Idealize.ShloMosaic Idealize.ShloMosaic.TcCoe Cert.Net

variable (m : (ℓ : Loc nD τ sig) → Buf (Elt Ideal) ℓ) (c : Dev nD)

/-- A launch the precondition admits is one at real arguments. -/
theorem launch {j : Cert.Pre_finite.S_.Idx}
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) j = 1#1) :
    ∃ x P₀ P₁, Launch m c x P₀ P₁ := by
  obtain ⟨h0, h1, h2, h3, h4, h5, h6, h7, h8, h9, h10, h11⟩ := Cert.Pre_finite.finite h
  choose r0 e0 using h0
  choose r1 e1 using h1
  choose r2 e2 using h2
  choose r3 e3 using h3
  choose r4 e4 using h4
  choose r5 e5 using h5
  choose r6 e6 using h6
  choose r7 e7 using h7
  choose r8 e8 using h8
  choose r9 e9 using h9
  choose r10 e10 using h10
  choose r11 e11 using h11
  let P (i : Fin 2) : Params :=
    { cos := fun l d => r1 (ix2 l d), sin := fun l d => r2 (ix2 l d), an := fun d => r3 (ix2 i d)
      wq := fun k d => r4 (ix3 i k d), wk := fun k d => r5 (ix3 i k d), wv := fun k d => r6 (ix3 i k d), wo := fun k d => r7 (ix3 i k d)
      fn := fun d => r8 (ix2 i d)
      w1 := fun k d => r9 (ix3 i k d), w2 := fun k d => r10 (ix3 i k d), w3 := fun k d => r11 (ix3 i k d) }
  have hw (i : Fin 2) : Weights (W0 m c) i (P i) :=
    { an := fun d => e3 _, wq := fun k d => e4 _, wk := fun k d => e5 _, wv := fun k d => e6 _, wo := fun k d => e7 _
      fn := fun d => e8 _, w1 := fun k d => e9 _, w2 := fun k d => e10 _, w3 := fun k d => e11 _ }
  refine ⟨fun b l d => r0 (ix3 b l d), P 0, P 1, ?_, fun l d => e1 _, fun l d => e2 _, hw 0, rfl, rfl, hw 1⟩
  funext r
  refine (e0 r).trans ?_
  show ((r0 r : ℝ) : EReal) = ((r0 (ix3 (r 0) (r 1) (r 2)) : ℝ) : EReal)
  exact congrArg (fun q => ((r0 q : ℝ) : EReal)) (eq_ix3 r)

end Cert.KernelIdeal.Regions

end
-- ==== Proof.RefOps.lean ====
/-
  The reference's operations read at an index, for operands that are real numbers: the norm, the projections, the rotary
  embedding, the masked softmax, the attention's sum and the gate, each as the network's definition.
-/
module

public import proofs.«01_k».proof.Proof.Gen.ReferenceIdeal
public import proofs.«01_k».proof.Proof.Net
public import Idealize.ShloMosaic.Lib.WordCmp

@[expose] public section

set_option maxRecDepth 16384

noncomputable section

namespace Cert.ReferenceIdeal.Reads

open Cert.ReferenceIdeal Cert.ReferenceIdeal.Gen Idealize.ShloMosaic Idealize.ShloMosaic.TcCoe Cert.Net

/-! ## The steps -/

/-- Each row over the root of its mean square. -/
def scaled (X : FVec Ideal S4x2048x768 .f32) : FVec Ideal S4x2048x768 .f32 :=
  mulf X (broadcastInDim S4x2048x768 ![0, 1, 2] bcast_S4x2048x1_S4x2048x768_0_1_2 (Host.rsqrt (addf (Host.divf (broadcastInDim S4x2048x1 ![0, 1] bcast_S4x2048_S4x2048x1_0_1 (Host.reduceAdd (mulf X X) (constant S_ .f32 0x00000000#32) reducesTo_S4x2048x768_S4x2048_d2 h_S_)) (broadcastInDim S4x2048x1 ![] bcast_S_S4x2048x1 (constant S_ .f32 0x44400000#32))) (broadcastInDim S4x2048x1 ![] bcast_S_S4x2048x1 (constant S_ .f32 0x3727C5AC#32)))))

/-- A projection, by heads. -/
def heads (X : FVec Ideal S4x2048x768 .f32) (W : FVec Ideal S768x768 .f32) : FVec Ideal S4x12x2048x64 .f32 :=
  transpose S4x12x2048x64 [0, 2, 1, 3] (shapeCast _ (Host.dotGeneral dot_S4x2048x768_S768x768_S4x2048x768_2_0_01_1_n_n none X W) shapeCasts_S4x2048x768_S4x2048x12x64) transposes_S4x2048x12x64_S4x12x2048x64_0_2_1_3

/-- The gate. -/
def gated (A B : FVec Ideal S4x2048x2048 .f32) : FVec Ideal S4x2048x2048 .f32 :=
  mulf (mulf A (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf A))))) B

/-- The rotary embedding. -/
def turned (Q : FVec Ideal S4x12x2048x64 .f32) (C S : FVec Ideal S2048x64 .f32) : FVec Ideal S4x12x2048x64 .f32 :=
  addf (mulf Q (broadcastInDim S4x12x2048x64 ![0, 1, 2, 3] bcast_S1x1x2048x64_S4x12x2048x64_0_1_2_3 (broadcastInDim S1x1x2048x64 ![2, 3] bcast_S2048x64_S1x1x2048x64_2_3 C))) (mulf (concatenate S4x12x2048x64 3 [⟨S4x12x2048x32, (Host.negf (extractStridedSlice S4x12x2048x32 ![0, 0, 0, 32] Q slices_S4x12x2048x64_S4x12x2048x32_0_0_0_32))⟩, ⟨S4x12x2048x32, (extractStridedSlice S4x12x2048x32 ![0, 0, 0, 0] Q slices_S4x12x2048x64_S4x12x2048x32_0_0_0_0)⟩] concatenates_S4x12x2048x32_S4x12x2048x32_S4x12x2048x64_d3) (broadcastInDim S4x12x2048x64 ![0, 1, 2, 3] bcast_S1x1x2048x64_S4x12x2048x64_0_1_2_3 (broadcastInDim S1x1x2048x64 ![2, 3] bcast_S2048x64_S1x1x2048x64_2_3 S)))

/-- The masked scores. -/
def scores (Q K : FVec Ideal S4x12x2048x64 .f32) : FVec Ideal S4x12x2048x2048 .f32 :=
  select (broadcastInDim S4x12x2048x2048 ![0, 1, 2, 3] bcast_S1x1x2048x2048_S4x12x2048x2048_0_1_2_3 (broadcastInDim S1x1x2048x2048 ![2, 3] bcast_S2048x2048_S1x1x2048x2048_2_3 (select (cmpi .sge (addi (iotaInDim S2048x2048 32 0) (broadcastInDim S2048x2048 ![] bcast_S_S2048x2048 (constantI S_ 32 0#32))) (iotaInDim S2048x2048 32 1)) (broadcastInDim S2048x2048 ![] bcast_S_S2048x2048 (constantI S_ 1 1#1)) (broadcastInDim S2048x2048 ![] bcast_S_S2048x2048 (constantI S_ 1 0#1))))) (Host.divf (Host.dotGeneral dot_S4x12x2048x64_S4x12x2048x64_S4x12x2048x2048_3_3_2_2_01_01 none Q K) (broadcastInDim S4x12x2048x2048 ![] bcast_S_S4x12x2048x2048 (constant S_ .f32 0x41000000#32))) (broadcastInDim S4x12x2048x2048 ![] bcast_S_S4x12x2048x2048 (id (constant S_ .f32 0xFF800000#32)))

/-- The exponentials of the scores less each row's `R`, or `-∞`. -/
def less (S : FVec Ideal S4x12x2048x2048 .f32) (R : FVec Ideal S4x12x2048 .f32) : FVec Ideal S4x12x2048x2048 .f32 :=
  Host.exp (subf S (broadcastInDim S4x12x2048x2048 ![0, 1, 2, 3] bcast_S4x12x2048x1_S4x12x2048x2048_0_1_2_3 (broadcastInDim S4x12x2048x1 ![0, 1, 2] bcast_S4x12x2048_S4x12x2048x1_0_1_2 (maximumf (broadcastInDim S4x12x2048 ![] bcast_S_S4x12x2048 (constant S_ .f32 0xFF800000#32)) R))))

/-- The exponentials, the row's maximum taken off first. -/
def exps (S : FVec Ideal S4x12x2048x2048 .f32) : FVec Ideal S4x12x2048x2048 .f32 :=
  less S (Host.reduce FloatOps.maximumf S (constant S_ .f32 0xFF800000#32) reducesTo_S4x12x2048x2048_S4x12x2048_d3 h_S_)

/-- The values weighted, and the heads side by side. -/
def mixed (E : FVec Ideal S4x12x2048x2048 .f32) (U : FVec Ideal S4x12x2048x64 .f32) : FVec Ideal S4x2048x768 .f32 :=
  shapeCast _ (transpose S4x2048x12x64 [0, 2, 1, 3] (Host.dotGeneral dot_S4x12x2048x2048_S4x12x2048x64_S4x12x2048x64_3_2_2_3_01_01 none (Host.divf E (broadcastInDim S4x12x2048x2048 ![0, 1, 2, 3] bcast_S4x12x2048x1_S4x12x2048x2048_0_1_2_3 (broadcastInDim S4x12x2048x1 ![0, 1, 2] bcast_S4x12x2048_S4x12x2048x1_0_1_2 (Host.reduceAdd E (constant S_ .f32 0x00000000#32) reducesTo_S4x12x2048x2048_S4x12x2048_d3 h_S_)))) U) transposes_S4x12x2048x64_S4x2048x12x64_0_2_1_3) shapeCasts_S4x2048x12x64_S4x2048x768

/-! ## A layer's weights -/

section Slices

variable {a2 : FVec Ideal S2x768 .f32} {a : FVec Ideal S2x768x768 .f32} {u : FVec Ideal S2x768x2048 .f32} {g : FVec Ideal S2x2048x768 .f32}

theorem vec0 (d : Fin 768) : (shapeCast _ (extractStridedSlice S1x768 ![0, 0] a2 slices_S2x768_S1x768_0_0) shapeCasts_S1x768_S768 : FVec Ideal S768 .f32) (ix1 d)
    = a2 (ix2 0 d) := by pointwise []
theorem vec1 (d : Fin 768) : (shapeCast _ (extractStridedSlice S1x768 ![1, 0] a2 slices_S2x768_S1x768_1_0) shapeCasts_S1x768_S768 : FVec Ideal S768 .f32) (ix1 d)
    = a2 (ix2 1 d) := by pointwise []
theorem mat0 (k d : Fin 768) : (shapeCast _ (extractStridedSlice S1x768x768 ![0, 0, 0] a slices_S2x768x768_S1x768x768_0_0_0) shapeCasts_S1x768x768_S768x768 : FVec Ideal S768x768 .f32) (ix2 k d)
    = a (ix3 0 k d) := by pointwise []
theorem mat1 (k d : Fin 768) : (shapeCast _ (extractStridedSlice S1x768x768 ![1, 0, 0] a slices_S2x768x768_S1x768x768_1_0_0) shapeCasts_S1x768x768_S768x768 : FVec Ideal S768x768 .f32) (ix2 k d)
    = a (ix3 1 k d) := by pointwise []
theorem up0 (k : Fin 768) (d : Fin 2048) : (shapeCast _ (extractStridedSlice S1x768x2048 ![0, 0, 0] u slices_S2x768x2048_S1x768x2048_0_0_0) shapeCasts_S1x768x2048_S768x2048 : FVec Ideal S768x2048 .f32) (ix2 k d)
    = u (ix3 0 k d) := by pointwise []
theorem up1 (k : Fin 768) (d : Fin 2048) : (shapeCast _ (extractStridedSlice S1x768x2048 ![1, 0, 0] u slices_S2x768x2048_S1x768x2048_1_0_0) shapeCasts_S1x768x2048_S768x2048 : FVec Ideal S768x2048 .f32) (ix2 k d)
    = u (ix3 1 k d) := by pointwise []
theorem down0 (k : Fin 2048) (d : Fin 768) : (shapeCast _ (extractStridedSlice S1x2048x768 ![0, 0, 0] g slices_S2x2048x768_S1x2048x768_0_0_0) shapeCasts_S1x2048x768_S2048x768 : FVec Ideal S2048x768 .f32) (ix2 k d)
    = g (ix3 0 k d) := by pointwise []
theorem down1 (k : Fin 2048) (d : Fin 768) : (shapeCast _ (extractStridedSlice S1x2048x768 ![1, 0, 0] g slices_S2x2048x768_S1x2048x768_1_0_0) shapeCasts_S1x2048x768_S2048x768 : FVec Ideal S2048x768 .f32) (ix2 k d)
    = g (ix3 1 k d) := by pointwise []

end Slices

/-! ## The norm and the linear maps -/

variable {X : FVec Ideal S4x2048x768 .f32} {x : Act} (hX : ∀ b l j, X (ix3 b l j) = (x b l j : EReal))
include hX

theorem unit_read (b : Fin 4) (l : Fin 2048) (j : Fin 768) : (scaled X) (ix3 b l j)
    = (unit (x b l) j : EReal) := by
  pointwise [scaled, hX]
  exact coe_unit (x b l) j

theorem lin_read {W : FVec Ideal S768x768 .f32} {w : Fin 768 → Fin 768 → ℝ} (hW : ∀ k d, W (ix2 k d) = (w k d : EReal)) (b : Fin 4) (l : Fin 2048) (j : Fin 768) :
    (Host.dotGeneral dot_S4x2048x768_S768x768_S4x2048x768_2_0_01_1_n_n none X W) (ix3 b l j) = (mv (x b l) w j : EReal) := by
  pointwise [hX, hW]
  exact coe_mv _ _ _

theorem up_read {W : FVec Ideal S768x2048 .f32} {w : Fin 768 → Fin 2048 → ℝ} (hW : ∀ k d, W (ix2 k d) = (w k d : EReal)) (b : Fin 4) (l : Fin 2048) (j : Fin 2048) :
    (Host.dotGeneral dot_S4x2048x768_S768x2048_S4x2048x2048_2_0_01_1_n_n none X W) (ix3 b l j) = (mv (x b l) w j : EReal) := by
  pointwise [hX, hW]
  exact coe_mv _ _ _

theorem head_read {W : FVec Ideal S768x768 .f32} {w : Fin 768 → Fin 768 → ℝ} (hW : ∀ k d, W (ix2 k d) = (w k d : EReal)) (b : Fin 4) (n : Fin 12) (l : Fin 2048) (d : Fin 64) :
    (heads X W) (ix4 b n l d)
      = (mv (x b l) w (hd n d) : EReal) := by
  pointwise [heads, hX, hW]
  exact coe_mv _ _ _

omit hX

theorem down_read {G : FVec Ideal S4x2048x2048 .f32} {g : Fin 4 → Fin 2048 → Fin 2048 → ℝ} (hG : ∀ b l i, G (ix3 b l i) = (g b l i : EReal))
    {W : FVec Ideal S2048x768 .f32} {w : Fin 2048 → Fin 768 → ℝ} (hW : ∀ k d, W (ix2 k d) = (w k d : EReal)) (b : Fin 4) (l : Fin 2048) (j : Fin 768) :
    (Host.dotGeneral dot_S4x2048x2048_S2048x768_S4x2048x768_2_0_01_1_n_n none G W) (ix3 b l j) = (mv (g b l) w j : EReal) := by
  pointwise [hG, hW]
  exact coe_mv _ _ _

theorem gate_read {A B : FVec Ideal S4x2048x2048 .f32} {a c : Fin 4 → Fin 2048 → Fin 2048 → ℝ} (hA : ∀ b l i, A (ix3 b l i) = (a b l i : EReal))
    (hB : ∀ b l i, B (ix3 b l i) = (c b l i : EReal)) (b : Fin 4) (l i : Fin 2048) :
    (gated A B) (ix3 b l i)
      = ((silu (a b l i) * c b l i : ℝ) : EReal) := by
  pointwise [gated, hA, hB]
  rw [← EReal.coe_neg, Ideal.exp_coe, ← EReal.coe_one, ← EReal.coe_add, coe_div _ (by positivity), ← EReal.coe_mul, ← EReal.coe_mul, silu]

/-! ## The rotary embedding -/

theorem rope_read {Q : FVec Ideal S4x12x2048x64 .f32} {C S : FVec Ideal S2048x64 .f32} {q : Act} {cos sin : Fin 2048 → Fin 64 → ℝ} (hQ : ∀ b n l d, Q (ix4 b n l d) = (q b l (hd n d) : EReal))
    (hC : ∀ l d, C (ix2 l d) = (cos l d : EReal)) (hS : ∀ l d, S (ix2 l d) = (sin l d : EReal)) (b : Fin 4) (n : Fin 12) (l : Fin 2048) (d : Fin 64) :
    (turned Q C S) (ix4 b n l d)
      = (rope (cos l) (sin l) (q b l) (hd n d) : EReal) := by
  pointwise [turned, hQ, hC, hS]
  have h64 : ((hd n d : Fin 768) : ℕ) % 64 = d := congrArg Fin.val (hr_hd n d)
  unfold rope rot
  rw [hr_hd]
  by_cases c : (d : ℕ) < 32
  · rw [dif_pos c, dif_pos (h64.symm ▸ c), ← EReal.coe_neg, ← EReal.coe_mul, ← EReal.coe_mul, ← EReal.coe_add,
      show hd n ⟨32 + d, by omega⟩ = ⟨hd n d + 32, by simp only [hd]; omega⟩ from Fin.ext (by simp only [hd]; omega)]
  · rw [dif_neg c, dif_neg (h64.symm ▸ c), ← EReal.coe_mul, ← EReal.coe_mul, ← EReal.coe_add,
      show hd n ⟨d - 32, by omega⟩ = ⟨hd n d - 32, by omega⟩ from Fin.ext (by simp only [hd]; omega)]

/-! ## The scores -/

theorem score_read {Q K : FVec Ideal S4x12x2048x64 .f32} {q k : Act} (hQ : ∀ b n l d, Q (ix4 b n l d) = (q b l (hd n d) : EReal))
    (hK : ∀ b n l d, K (ix4 b n l d) = (k b l (hd n d) : EReal)) (b : Fin 4) (n : Fin 12) (l t : Fin 2048) :
    (scores Q K) (ix4 b n l t)
      = if t ≤ l then (score (q b l) (k b t) n : EReal) else ⊥ := by
  pointwise [scores, hQ, hK]
  have hb : (id (constant (F := Ideal) S_ FTy.f32 4286578688#32) : FVec Ideal S_ .f32) ix0 = (⊥ : EReal) := w_bot
  rw [show IntOp.addi (BitVec.ofNat 32 l) 0#32 = BitVec.ofNat 32 l from BitVec.add_zero _,
    WordCmp.cmpi_sge_ofNat (by omega) (by omega), hb]
  by_cases c : t ≤ l
  · rw [if_pos c, decide_eq_true (show (t : ℕ) ≤ l from c)]
    simp only [← EReal.coe_mul, coe_sum, w_8, coe_div _ (show (8 : ℝ) ≠ 0 by norm_num), score]
    rfl
  · rw [if_neg c, decide_eq_false (show ¬ (t : ℕ) ≤ l from c)]
    rfl

/-! ## The softmax and the sum -/

variable {S : FVec Ideal S4x12x2048x2048 .f32} {s : Fin 4 → Fin 12 → Fin 2048 → Fin 2048 → ℝ}

/-- A maximum over the last axis. -/
theorem max_read {n0 n1 n2 n3 : ℕ} {u : Shape} (h : (⟨4, ![n0, n1, n2, n3]⟩ : Shape).ReducesTo [3] ⟨3, ![n0, n1, n2]⟩) (hu : 0 < u.numel)
    (v : FVec Ideal ⟨4, ![n0, n1, n2, n3]⟩ .f32) (z : FVec Ideal u .f32) (a : Fin n0) (b : Fin n1) (c : Fin n2) {z0 : EReal} {f : Fin n3 → EReal}
    (hz : z (Shape.Idx.first hu) = z0) (hv : ∀ k, v (ix4 a b c k) = f k) :
    Host.reduce FloatOps.maximumf v z h hu (ix3 a b c) = Finset.univ.fold max z0 f := by
  pointwise [hz, hv]

theorem max_real (s : Fin 2048 → ℝ) (l : Fin 2048) :
    ∃ M : ℝ, Finset.univ.fold max (Ideal.ofBits .f32 0xFF800000#32) (fun t => if t ≤ l then (s t : EReal) else ⊥) = (M : EReal) := by
  rw [w_bot]
  refine ⟨_, (EReal.coe_toReal ?_ ?_).symm⟩
  · refine ((Finset.fold_max_lt _).2 ⟨bot_lt_top, fun t _ => ?_⟩).ne
    split
    · exact EReal.coe_lt_top _
    · exact bot_lt_top
  · refine ((Finset.lt_fold_max _).2 (Or.inr ⟨l, Finset.mem_univ _, ?_⟩)).ne'
    rw [if_pos le_rfl]
    exact EReal.bot_lt_coe _

theorem top_read (hS : ∀ b n l t, S (ix4 b n l t) = if t ≤ l then (s b n l t : EReal) else ⊥) (b : Fin 4) (n : Fin 12) (l : Fin 2048) :
    ∃ M : ℝ, (Host.reduce FloatOps.maximumf S (constant S_ .f32 0xFF800000#32) reducesTo_S4x12x2048x2048_S4x12x2048_d3 h_S_ : FVec Ideal S4x12x2048 .f32) (ix3 b n l) = (M : EReal) := by
  obtain ⟨M, h⟩ := max_real (s b n l) l
  exact ⟨M, (max_read _ _ S _ b n l rfl (hS b n l)).trans h⟩

theorem less_read {R : FVec Ideal S4x12x2048 .f32} (b : Fin 4) (n : Fin 12) (l t : Fin 2048) :
    less S R (ix4 b n l t) = Ideal.exp (S (ix4 b n l t) - max (Ideal.ofBits .f32 0xFF800000#32) (R (ix3 b n l))) := by
  pointwise [less]

theorem exp_read (hS : ∀ b n l t, S (ix4 b n l t) = if t ≤ l then (s b n l t : EReal) else ⊥) (b : Fin 4) (n : Fin 12) (l : Fin 2048) :
    ∃ M : ℝ, ∀ t, exps S (ix4 b n l t) = ((if t ≤ l then Real.exp (s b n l t - M) else 0 : ℝ) : EReal) := by
  obtain ⟨M, hM⟩ := top_read hS b n l
  refine ⟨M, fun t => ?_⟩
  unfold exps
  rw [less_read, hM, hS, w_bot, max_eq_right bot_le]
  by_cases c : t ≤ l
  · rw [if_pos c, if_pos c, ← EReal.coe_sub, Ideal.exp_coe]
  · rw [if_neg c, if_neg c, EReal.bot_sub, Ideal.exp_bot]; rfl

theorem ctx_read {E : FVec Ideal S4x12x2048x2048 .f32} {e : Fin 4 → Fin 12 → Fin 2048 → Fin 2048 → ℝ} (hE : ∀ b n l t, E (ix4 b n l t) = (e b n l t : EReal))
    (he : ∀ b n l, ∑ t, e b n l t ≠ 0) {U : FVec Ideal S4x12x2048x64 .f32} {v : Act} (hU : ∀ b n l d, U (ix4 b n l d) = (v b l (hd n d) : EReal)) (b : Fin 4) (l : Fin 2048) (j : Fin 768) :
    (mixed E U) (ix3 b l j)
      = ((∑ t, e b (hn j) l t / (∑ i, e b (hn j) l i) * v b t j : ℝ) : EReal) := by
  pointwise [mixed, hE, hU]
  simp only [coe_sum, coe_div _ (he b _ l), ← EReal.coe_mul]
  refine congrArg _ (Finset.sum_congr rfl fun t _ => ?_)
  exact congrArg (_ * v b t ·) (hd_hn_hr j)

end Cert.ReferenceIdeal.Reads

end
-- ==== Proof.RefLayer.lean ====
/-
  The reference's layers over real operands: each computes the network's layer.
-/
module

public import proofs.«01_k».proof.Proof.Gen.ReferenceIdeal.Run
public import proofs.«01_k».proof.Proof.RefOps

@[expose] public section

set_option maxRecDepth 16384

noncomputable section

namespace Cert.ReferenceIdeal.Reads

open Cert.ReferenceIdeal Cert.ReferenceIdeal.Gen Cert.ReferenceIdeal.Value Idealize.ShloMosaic Idealize.ShloMosaic.TcCoe Cert.Net

/-! ## Attention by normalized weights -/

/-- The weights divided by their sum before the values are weighted, every score less `M`: the network's attention. -/
theorem attn_less (q : Fin 768 → ℝ) (k v : Fin 2048 → Fin 768 → ℝ) (l : Fin 2048) (j : Fin 768) (M : ℝ) :
    ∑ t, (if t ≤ l then Real.exp (score q (k t) (hn j) - M) else 0)
        / (∑ i, if i ≤ l then Real.exp (score q (k i) (hn j) - M) else 0) * v t j = attn q k v l j := by
  have e : ∀ t, (if t ≤ l then Real.exp (score q (k t) (hn j) - M) else 0)
      = (if t ≤ l then Real.exp (score q (k t) (hn j)) else 0) * Real.exp (-M) := fun t => by
    rw [sub_eq_add_neg, Real.exp_add, ite_mul, zero_mul]
  simp only [e, ← Finset.sum_mul, mul_div_mul_right _ _ (Real.exp_pos (-M)).ne', attn]
  rw [Finset.sum_div]
  refine Finset.sum_congr rfl fun t _ => ?_
  by_cases c : t ≤ l
  · simp only [if_pos c]; rw [div_mul_eq_mul_div]
  · simp only [if_neg c, zero_div, zero_mul]

theorem less_pos (q : Fin 768 → ℝ) (k : Fin 2048 → Fin 768 → ℝ) (l : Fin 2048) (n : Fin 12) (M : ℝ) :
    ∑ i, (if i ≤ l then Real.exp (score q (k i) n - M) else 0) ≠ 0 := by
  refine (Finset.sum_pos' (fun i _ => ?_) ⟨l, Finset.mem_univ _, ?_⟩).ne'
  · split
    · exact (Real.exp_pos _).le
    · exact le_rfl
  · rw [if_pos le_rfl]; exact Real.exp_pos _

/-! ## The layer -/

/-- The norm with its weights. -/
def weighed (X : FVec Ideal S4x2048x768 .f32) (w : FVec Ideal S768 .f32) : FVec Ideal S4x2048x768 .f32 :=
  mulf (scaled X) (broadcastInDim S4x2048x768 ![0, 1, 2] bcast_S1x1x768_S4x2048x768_0_1_2 (broadcastInDim S1x1x768 ![2] bcast_S768_S1x1x768_2 w))

/-- The attention's heads side by side, from the normed rows. -/
def attended (h : FVec Ideal S4x2048x768 .f32) (C S : FVec Ideal S2048x64 .f32) (wq wk wv : FVec Ideal S768x768 .f32) : FVec Ideal S4x2048x768 .f32 :=
  mixed (exps (scores (turned (heads h wq) C S) (turned (heads h wk) C S))) (heads h wv)

/-- The rows after attention. -/
def after (X o : FVec Ideal S4x2048x768 .f32) (wo : FVec Ideal S768x768 .f32) : FVec Ideal S4x2048x768 .f32 :=
  addf X (Host.dotGeneral dot_S4x2048x768_S768x768_S4x2048x768_2_0_01_1_n_n none o wo)

/-- The rows after the feed-forward step, `h` the normed rows. -/
def fed (Y h : FVec Ideal S4x2048x768 .f32) (w1 w3 : FVec Ideal S768x2048 .f32) (w2 : FVec Ideal S2048x768 .f32) : FVec Ideal S4x2048x768 .f32 :=
  addf Y (Host.dotGeneral dot_S4x2048x2048_S2048x768_S4x2048x768_2_0_01_1_n_n none
    (gated (Host.dotGeneral dot_S4x2048x768_S768x2048_S4x2048x2048_2_0_01_1_n_n none h w1)
      (Host.dotGeneral dot_S4x2048x768_S768x2048_S4x2048x2048_2_0_01_1_n_n none h w3)) w2)

/-- A layer's weights as the reference slices them. -/
structure Sliced where
  C : FVec Ideal S2048x64 .f32
  S : FVec Ideal S2048x64 .f32
  an : FVec Ideal S768 .f32
  wq : FVec Ideal S768x768 .f32
  wk : FVec Ideal S768x768 .f32
  wv : FVec Ideal S768x768 .f32
  wo : FVec Ideal S768x768 .f32
  fn : FVec Ideal S768 .f32
  w1 : FVec Ideal S768x2048 .f32
  w2 : FVec Ideal S2048x768 .f32
  w3 : FVec Ideal S768x2048 .f32

/-- They are these reals. -/
structure Sliced.Are (s : Sliced) (P : Params) : Prop where
  C : ∀ l d, s.C (ix2 l d) = (P.cos l d : EReal)
  S : ∀ l d, s.S (ix2 l d) = (P.sin l d : EReal)
  an : ∀ d, s.an (ix1 d) = (P.an d : EReal)
  wq : ∀ k d, s.wq (ix2 k d) = (P.wq k d : EReal)
  wk : ∀ k d, s.wk (ix2 k d) = (P.wk k d : EReal)
  wv : ∀ k d, s.wv (ix2 k d) = (P.wv k d : EReal)
  wo : ∀ k d, s.wo (ix2 k d) = (P.wo k d : EReal)
  fn : ∀ d, s.fn (ix1 d) = (P.fn d : EReal)
  w1 : ∀ k d, s.w1 (ix2 k d) = (P.w1 k d : EReal)
  w2 : ∀ k d, s.w2 (ix2 k d) = (P.w2 k d : EReal)
  w3 : ∀ k d, s.w3 (ix2 k d) = (P.w3 k d : EReal)

def mids (s : Sliced) (X : FVec Ideal S4x2048x768 .f32) : FVec Ideal S4x2048x768 .f32 :=
  after X (attended (weighed X s.an) s.C s.S s.wq s.wk s.wv) s.wo

def block (s : Sliced) (X : FVec Ideal S4x2048x768 .f32) : FVec Ideal S4x2048x768 .f32 :=
  fed (mids s X) (weighed (mids s X) s.fn) s.w1 s.w3 s.w2

theorem weight_read {w : FVec Ideal S768 .f32} {X : FVec Ideal S4x2048x768 .f32} (b : Fin 4) (l : Fin 2048) (j : Fin 768) :
    weighed X w (ix3 b l j) = scaled X (ix3 b l j) * w (ix1 j) := by
  unfold weighed
  generalize scaled X = Y
  pointwise []

section

variable {s : Sliced} {P : Params} (h : s.Are P) {X : FVec Ideal S4x2048x768 .f32} {x : Act} (hX : ∀ b l j, X (ix3 b l j) = (x b l j : EReal))
include hX

theorem rms_read {w : FVec Ideal S768 .f32} {v : Fin 768 → ℝ} (hw : ∀ d, w (ix1 d) = (v d : EReal)) (b : Fin 4) (l : Fin 2048) (j : Fin 768) :
    weighed X w (ix3 b l j) = (rms (x b l) v j : EReal) := by
  rw [weight_read, unit_read hX, hw, ← EReal.coe_mul]; rfl

theorem add_read {o : FVec Ideal S4x2048x768 .f32} {a : Act} (ho : ∀ b l j, o (ix3 b l j) = (a b l j : EReal)) (b : Fin 4) (l : Fin 2048) (j : Fin 768) :
    addf X o (ix3 b l j) = ((x b l j + a b l j : ℝ) : EReal) := by
  pointwise [hX, ho]
  rw [EReal.coe_add]

include h

theorem attended_read (b : Fin 4) (l : Fin 2048) (j : Fin 768) :
    attended (weighed X s.an) s.C s.S s.wq s.wk s.wv (ix3 b l j) = (orow P x b l j : EReal) := by
  have hn' := rms_read hX h.an
  have hq := rope_read (head_read hn' h.wq) h.C h.S
  have hk := rope_read (head_read hn' h.wk) h.C h.S
  have hs := score_read hq hk
  choose M hM using fun b n l => exp_read hs b n l
  refine (ctx_read hM (fun b n l => less_pos _ _ l n _) (head_read hn' h.wv) b l j).trans ?_
  exact congrArg _ (attn_less (qrow P x b l) (krow P x b) (vrow P x b) l j _)

theorem mids_read (b : Fin 4) (l : Fin 2048) (j : Fin 768) : mids s X (ix3 b l j) = (mid P (x b l) (orow P x b l) j : EReal) :=
  add_read hX (lin_read (attended_read h hX) h.wo) b l j

/-- **A layer of the reference is the network's.** -/
theorem block_read (b : Fin 4) (l : Fin 2048) (j : Fin 768) : block s X (ix3 b l j) = (layer P x b l j : EReal) :=
  have hm := mids_read h hX
  have hr := rms_read hm h.fn
  add_read hm (down_read (gate_read (up_read hr h.w1) (up_read hr h.w3)) h.w2) b l j

end

/-! ## The reference's two layers -/

variable (V : Valuation τ sig (Elt Ideal))

def layer0 : Sliced where
  C := V (Proc.devRef .tc main_arg1)
  S := V (Proc.devRef .tc main_arg2)
  an := shapeCast _ (extractStridedSlice S1x768 ![0, 0] (V (Proc.devRef .tc main_arg3)) slices_S2x768_S1x768_0_0) shapeCasts_S1x768_S768
  wq := shapeCast _ (extractStridedSlice S1x768x768 ![0, 0, 0] (V (Proc.devRef .tc main_arg4)) slices_S2x768x768_S1x768x768_0_0_0) shapeCasts_S1x768x768_S768x768
  wk := shapeCast _ (extractStridedSlice S1x768x768 ![0, 0, 0] (V (Proc.devRef .tc main_arg5)) slices_S2x768x768_S1x768x768_0_0_0) shapeCasts_S1x768x768_S768x768
  wv := shapeCast _ (extractStridedSlice S1x768x768 ![0, 0, 0] (V (Proc.devRef .tc main_arg6)) slices_S2x768x768_S1x768x768_0_0_0) shapeCasts_S1x768x768_S768x768
  wo := shapeCast _ (extractStridedSlice S1x768x768 ![0, 0, 0] (V (Proc.devRef .tc main_arg7)) slices_S2x768x768_S1x768x768_0_0_0) shapeCasts_S1x768x768_S768x768
  fn := shapeCast _ (extractStridedSlice S1x768 ![0, 0] (V (Proc.devRef .tc main_arg8)) slices_S2x768_S1x768_0_0) shapeCasts_S1x768_S768
  w1 := shapeCast _ (extractStridedSlice S1x768x2048 ![0, 0, 0] (V (Proc.devRef .tc main_arg9)) slices_S2x768x2048_S1x768x2048_0_0_0) shapeCasts_S1x768x2048_S768x2048
  w2 := shapeCast _ (extractStridedSlice S1x2048x768 ![0, 0, 0] (V (Proc.devRef .tc main_arg10)) slices_S2x2048x768_S1x2048x768_0_0_0) shapeCasts_S1x2048x768_S2048x768
  w3 := shapeCast _ (extractStridedSlice S1x768x2048 ![0, 0, 0] (V (Proc.devRef .tc main_arg11)) slices_S2x768x2048_S1x768x2048_0_0_0) shapeCasts_S1x768x2048_S768x2048

def layer1 : Sliced where
  C := V (Proc.devRef .tc main_arg1)
  S := V (Proc.devRef .tc main_arg2)
  an := shapeCast _ (extractStridedSlice S1x768 ![1, 0] (V (Proc.devRef .tc main_arg3)) slices_S2x768_S1x768_1_0) shapeCasts_S1x768_S768
  wq := shapeCast _ (extractStridedSlice S1x768x768 ![1, 0, 0] (V (Proc.devRef .tc main_arg4)) slices_S2x768x768_S1x768x768_1_0_0) shapeCasts_S1x768x768_S768x768
  wk := shapeCast _ (extractStridedSlice S1x768x768 ![1, 0, 0] (V (Proc.devRef .tc main_arg5)) slices_S2x768x768_S1x768x768_1_0_0) shapeCasts_S1x768x768_S768x768
  wv := shapeCast _ (extractStridedSlice S1x768x768 ![1, 0, 0] (V (Proc.devRef .tc main_arg6)) slices_S2x768x768_S1x768x768_1_0_0) shapeCasts_S1x768x768_S768x768
  wo := shapeCast _ (extractStridedSlice S1x768x768 ![1, 0, 0] (V (Proc.devRef .tc main_arg7)) slices_S2x768x768_S1x768x768_1_0_0) shapeCasts_S1x768x768_S768x768
  fn := shapeCast _ (extractStridedSlice S1x768 ![1, 0] (V (Proc.devRef .tc main_arg8)) slices_S2x768_S1x768_1_0) shapeCasts_S1x768_S768
  w1 := shapeCast _ (extractStridedSlice S1x768x2048 ![1, 0, 0] (V (Proc.devRef .tc main_arg9)) slices_S2x768x2048_S1x768x2048_1_0_0) shapeCasts_S1x768x2048_S768x2048
  w2 := shapeCast _ (extractStridedSlice S1x2048x768 ![1, 0, 0] (V (Proc.devRef .tc main_arg10)) slices_S2x2048x768_S1x2048x768_1_0_0) shapeCasts_S1x2048x768_S2048x768
  w3 := shapeCast _ (extractStridedSlice S1x768x2048 ![1, 0, 0] (V (Proc.devRef .tc main_arg11)) slices_S2x768x2048_S1x768x2048_1_0_0) shapeCasts_S1x768x2048_S768x2048

theorem v101_eq : res_main_v101 V = block (layer0 V) (V (Proc.devRef .tc main_arg0)) := rfl

theorem v203_eq : res_main_v203 V = block (layer1 V) (res_main_v101 V) := rfl

end Cert.ReferenceIdeal.Reads

end
-- ==== Proof.RefValue.lean ====
/-
  The reference's results over real arguments: the normed activations, and their rows at the chunk starts, picked by a
  0/1 selector.
-/
module

public import proofs.«01_k».proof.Proof.RefLayer
public import Idealize.ShloMosaic.Lib.Routing.OpsSet

@[expose] public section

set_option maxRecDepth 16384

noncomputable section

namespace Cert.ReferenceIdeal.Reads

open Cert.ReferenceIdeal Cert.ReferenceIdeal.Gen Cert.ReferenceIdeal.Value Idealize.ShloMosaic Idealize.ShloMosaic.TcCoe Cert.Net

/-! ## The selector -/

/-- A column of word indices with the negative ones counted from the end. -/
def wrapped (i n : IVec S128 32) : IVec S128 32 :=
  select (cmpi .slt i (broadcastInDim S128 ![] bcast_S_S128 (constantI S_ 32 0#32))) (addi i n) i

/-- Zeros, with a one at chunk `u i` and position `v i` for each `i`. -/
def selector (u v : IVec S128 32) : FVec Ideal S4x128x2048 .f32 :=
  Host.scatter scatter_S4x128x2048_S128x2_S4x128_0_12_12_1 (fun _ b => b)
    (broadcastInDim S4x128x2048 ![] bcast_S_S4x128x2048 (constant S_ .f32 0x00000000#32))
    (concatenate S128x2 1 [⟨S128x1, broadcastInDim S128x1 ![0] bcast_S128_S128x1_0 u⟩,
      ⟨S128x1, broadcastInDim S128x1 ![0] bcast_S128_S128x1_0 v⟩] concatenates_S128x1_S128x1_S128x2_d1)
    (broadcastInDim S4x128 ![] bcast_S_S4x128 (constant S_ .f32 0x3F800000#32))

abbrev sel := scatter_S4x128x2048_S128x2_S4x128_0_12_12_1

theorem window0 (k : S4x128.Idx) : sel.window k 0 = (k 0).val := rfl
theorem window1 (k : S4x128.Idx) : sel.window k 1 = 0 := rfl
theorem window2 (k : S4x128.Idx) : sel.window k 2 = 0 := rfl
theorem start0 (k : S4x128.Idx) (idx : IVec S128x2 32) : sel.start k idx 0 = 0 := rfl
theorem start1 (k : S4x128.Idx) (idx : IVec S128x2 32) : sel.start k idx 1 = (idx (ix2 (k 1) 0)).toInt := by
  refine congrArg (fun q => (idx q).toInt) (funext fun q => ?_)
  match q with
  | ⟨0, _⟩ => rfl
  | ⟨1, _⟩ => rfl
theorem start2 (k : S4x128.Idx) (idx : IVec S128x2 32) : sel.start k idx 2 = (idx (ix2 (k 1) 1)).toInt := by
  refine congrArg (fun q => (idx q).toInt) (funext fun q => ?_)
  match q with
  | ⟨0, _⟩ => rfl
  | ⟨1, _⟩ => rfl

/-- Update `k` lands at its own batch and at the chunk and position its two words name. -/
theorem lands (idx : IVec S128x2 32) (k : S4x128.Idx) (ι : S4x128x2048.Idx) :
    sel.resultIdx? k idx = some ι ↔ ((k 0).val : Int) = (ι 0).val ∧ (idx (ix2 (k 1) 0)).toInt = (ι 1).val ∧ (idx (ix2 (k 1) 1)).toInt = (ι 2).val := by
  rw [Routing.resultIdx?_eq_some]
  constructor
  · intro h
    have h0 := h 0
    have h1 := h 1
    have h2 := h 2
    rw [window0, start0] at h0
    rw [window1, start1] at h1
    rw [window2, start2] at h2
    omega
  · rintro ⟨h0, h1, h2⟩ a
    match a with
    | ⟨0, _⟩ => exact (congrArg₂ (fun (p : Int) (q : Nat) => p + (q : Int)) (start0 k idx) (window0 k)).trans ((zero_add _).trans h0)
    | ⟨1, _⟩ => exact (congrArg₂ (fun (p : Int) (q : Nat) => p + (q : Int)) (start1 k idx) (window1 k)).trans ((add_zero _).trans h1)
    | ⟨2, _⟩ => exact (congrArg₂ (fun (p : Int) (q : Nat) => p + (q : Int)) (start2 k idx) (window2 k)).trans ((add_zero _).trans h2)

theorem words0 (u v : IVec S128 32) (s : Fin 128) :
    concatenate S128x2 1 [⟨S128x1, broadcastInDim S128x1 ![0] bcast_S128_S128x1_0 u⟩,
      ⟨S128x1, broadcastInDim S128x1 ![0] bcast_S128_S128x1_0 v⟩] concatenates_S128x1_S128x1_S128x2_d1 (ix2 s 0) = u (ix1 s) := by
  pointwise []
theorem words1 (u v : IVec S128 32) (s : Fin 128) :
    concatenate S128x2 1 [⟨S128x1, broadcastInDim S128x1 ![0] bcast_S128_S128x1_0 u⟩,
      ⟨S128x1, broadcastInDim S128x1 ![0] bcast_S128_S128x1_0 v⟩] concatenates_S128x1_S128x1_S128x2_d1 (ix2 s 1) = v (ix1 s) := by
  pointwise []

theorem zero_at (ι : S4x128x2048.Idx) :
    (broadcastInDim S4x128x2048 ![] bcast_S_S4x128x2048 (constant (F := Ideal) S_ .f32 0x00000000#32)) ι = (0 : EReal) := by
  pointwise []
theorem one_at (k : S4x128.Idx) :
    (broadcastInDim S4x128 ![] bcast_S_S4x128 (constant (F := Ideal) S_ .f32 0x3F800000#32)) k = (1 : EReal) := by
  pointwise []

/-- The selector at the chunk starts. -/
theorem selector_read {u v : IVec S128 32} (hu : ∀ s : Fin 128, (u (ix1 s)).toInt = (s.val : Int))
    (hv : ∀ s : Fin 128, (v (ix1 s)).toInt = ((16 * s.val : ℕ) : Int)) (b : Fin 4) (s : Fin 128) (t : Fin 2048) :
    selector u v (ix3 b s t) = if t = ⟨16 * s.val, by omega⟩ then (1 : EReal) else 0 := by
  split
  · next h =>
    subst h
    refine Routing.scatter_set_hit _ _ _ _ _ _ (fun k _ => one_at k) (ix2 b s) ((lands _ _ _).2 ⟨rfl, ?_, ?_⟩)
    · exact (congrArg BitVec.toInt (words0 u v s)).trans (hu s)
    · exact (congrArg BitVec.toInt (words1 u v s)).trans (hv s)
  · next h =>
    refine (Routing.scatter_set_miss _ _ _ _ _ fun k hk => h ?_).trans (zero_at _)
    obtain ⟨_, h1, h2⟩ := (lands _ _ _).1 hk
    have e1 := (congrArg BitVec.toInt (words0 u v (k 1))).trans (hu (k 1))
    have e2 := (congrArg BitVec.toInt (words1 u v (k 1))).trans (hv (k 1))
    have f1 : ((k 1).val : Int) = s.val := e1.symm.trans h1
    have f2 : ((16 * (k 1).val : ℕ) : Int) = t.val := e2.symm.trans h2
    refine Fin.ext ?_
    show t.val = 16 * s.val
    omega

/-- A selection of rows. -/
theorem pick_read {A : FVec Ideal S4x128x2048 .f32} {r : Fin 128 → Fin 2048}
    (hA : ∀ b s t, A (ix3 b s t) = if t = r s then (1 : EReal) else 0) (Y : FVec Ideal S4x2048x768 .f32) (b : Fin 4) (s : Fin 128) (j : Fin 768) :
    Host.dotGeneral dot_S4x128x2048_S4x2048x768_S4x128x768_2_1_1_2_0_0 none A Y (ix3 b s j) = Y (ix3 b (r s) j) := by
  pointwise [hA]
  simp only [ite_mul, one_mul, zero_mul, Finset.sum_ite_eq', Finset.mem_univ, if_true]

/-! ## The index words -/

theorem wrapped_read {i n : IVec S128 32} (s : Fin 128) {k : ℕ} (hk : k < 2 ^ 31) (h : i (ix1 s) = BitVec.ofNat 32 k) :
    (wrapped i n (ix1 s)).toInt = (k : Int) := by
  have e : wrapped i n (ix1 s) = i (ix1 s) :=
    Routing.wrap_of_lt (i (ix1 s)) (addi i n (ix1 s)) (by rw [h, BitVec.toNat_ofNat]; omega)
  rw [e, h]
  exact StableHlo.Predicate.toInt_ofNat_small k hk

variable (V : Valuation τ sig (Elt Ideal))

theorem chunk_word (s : Fin 128) : (res_main_v223 V : IVec S128 32) (ix1 s) = BitVec.ofNat 32 s.val := by
  unfold res_main_v223
  pointwise []

theorem place_word (s : Fin 128) : (res_main_v221 V : IVec S128 32) (ix1 s) = 16#32 * BitVec.ofNat 32 s.val := by
  unfold res_main_v221
  pointwise []
  exact BitVec.zero_add _

/-! ## The results -/

section

variable {V : Valuation τ sig (Elt Ideal)} {x : Act} {P₀ P₁ : Params} (h₀ : (layer0 V).Are P₀) (h₁ : (layer1 V).Are P₁)
  (hx : ∀ b l j, (V (Proc.devRef .tc main_arg0) : FVec Ideal S4x2048x768 .f32) (ix3 b l j) = (x b l j : EReal))
include h₀ h₁ hx

theorem layers_read (b : Fin 4) (l : Fin 2048) (j : Fin 768) :
    (res_main_v203 V : FVec Ideal S4x2048x768 .f32) (ix3 b l j) = (layer P₁ (layer P₀ x) b l j : EReal) := by
  rw [v203_eq]
  refine block_read h₁ (fun b l j => ?_) b l j
  rw [v101_eq]
  exact block_read h₀ hx b l j

/-- The normed activations. -/
theorem out_read (b : Fin 4) (l : Fin 2048) (j : Fin 768) :
    weighed (res_main_v203 V) (V (Proc.devRef .tc main_arg12)) (ix3 b l j)
      = (unit (layer P₁ (layer P₀ x) b l) j : EReal) * (V (Proc.devRef .tc main_arg12) : FVec Ideal S768 .f32) (ix1 j) := by
  rw [weight_read, unit_read (layers_read h₀ h₁ hx)]

end

/-- The rows at the chunk starts. -/
theorem picked_read (Y : FVec Ideal S4x2048x768 .f32) (b : Fin 4) (s : Fin 128) (j : Fin 768) :
    Host.dotGeneral dot_S4x128x2048_S4x2048x768_S4x128x768_2_1_1_2_0_0 none
      (selector (wrapped (res_main_v223 V) (broadcastInDim S128 ![] bcast_S_S128 (constantI S_ 32 128#32)))
        (wrapped (res_main_v221 V) (broadcastInDim S128 ![] bcast_S_S128 (constantI S_ 32 2048#32)))) Y (ix3 b s j)
      = Y (ix3 b ⟨16 * s.val, by omega⟩ j) :=
  pick_read (r := fun s => ⟨16 * s.val, by omega⟩)
    (selector_read (fun s => wrapped_read s (by omega) (chunk_word V s))
      (fun s => wrapped_read s (by omega) ((place_word V s).trans (BitVec.ofNat_mul ..).symm))) Y b s j

theorem start_read (b : Fin 4) (s : Fin 128) :
    broadcastInDim S4x128 ![0, 1] bcast_S1x128_S4x128_0_1 (broadcastInDim S1x128 ![1] bcast_S128_S1x128_1 (res_main_v221 V)) (ix2 b s)
      = 16#32 * BitVec.ofNat 32 s.val := by
  pointwise []
  exact place_word V s

end Cert.ReferenceIdeal.Reads

end
-- ==== Proof.Agree.lean ====
/-
  The reference at arguments that agree with the kernel's: its results are the kernel's.
-/
module

public import proofs.«01_k».proof.Proof.RefValue
public import proofs.«01_k».proof.Proof.Values

@[expose] public section

set_option maxRecDepth 16384

noncomputable section

namespace Cert.Agree

open Idealize.ShloMosaic Idealize.ShloMosaic.TcCoe Cert.Net
open Cert.KernelIdeal.Regions Cert.KernelIdeal.Run
open Cert.ReferenceIdeal.Reads Cert.ReferenceIdeal.Value

/-- The reference's arguments are the kernel's. -/
def Same (V : Valuation Cert.ReferenceIdeal.τ Cert.ReferenceIdeal.sig (Elt Ideal)) (W : Valuation Cert.KernelIdeal.τ Cert.KernelIdeal.sig (Elt Ideal)) : Prop :=
  (V (Proc.devRef .tc Cert.ReferenceIdeal.main_arg0) : FVec Ideal Cert.ReferenceIdeal.S4x2048x768 .f32) = (W (Proc.devRef .tc Cert.KernelIdeal.main_arg0) : FVec Ideal Cert.ReferenceIdeal.S4x2048x768 .f32)
    ∧ (V (Proc.devRef .tc Cert.ReferenceIdeal.main_arg1) : FVec Ideal Cert.ReferenceIdeal.S2048x64 .f32) = (W (Proc.devRef .tc Cert.KernelIdeal.main_arg1) : FVec Ideal Cert.ReferenceIdeal.S2048x64 .f32)
    ∧ (V (Proc.devRef .tc Cert.ReferenceIdeal.main_arg2) : FVec Ideal Cert.ReferenceIdeal.S2048x64 .f32) = (W (Proc.devRef .tc Cert.KernelIdeal.main_arg2) : FVec Ideal Cert.ReferenceIdeal.S2048x64 .f32)
    ∧ (V (Proc.devRef .tc Cert.ReferenceIdeal.main_arg3) : FVec Ideal Cert.ReferenceIdeal.S2x768 .f32) = (W (Proc.devRef .tc Cert.KernelIdeal.main_arg3) : FVec Ideal Cert.ReferenceIdeal.S2x768 .f32)
    ∧ (V (Proc.devRef .tc Cert.ReferenceIdeal.main_arg4) : FVec Ideal Cert.ReferenceIdeal.S2x768x768 .f32) = (W (Proc.devRef .tc Cert.KernelIdeal.main_arg4) : FVec Ideal Cert.ReferenceIdeal.S2x768x768 .f32)
    ∧ (V (Proc.devRef .tc Cert.ReferenceIdeal.main_arg5) : FVec Ideal Cert.ReferenceIdeal.S2x768x768 .f32) = (W (Proc.devRef .tc Cert.KernelIdeal.main_arg5) : FVec Ideal Cert.ReferenceIdeal.S2x768x768 .f32)
    ∧ (V (Proc.devRef .tc Cert.ReferenceIdeal.main_arg6) : FVec Ideal Cert.ReferenceIdeal.S2x768x768 .f32) = (W (Proc.devRef .tc Cert.KernelIdeal.main_arg6) : FVec Ideal Cert.ReferenceIdeal.S2x768x768 .f32)
    ∧ (V (Proc.devRef .tc Cert.ReferenceIdeal.main_arg7) : FVec Ideal Cert.ReferenceIdeal.S2x768x768 .f32) = (W (Proc.devRef .tc Cert.KernelIdeal.main_arg7) : FVec Ideal Cert.ReferenceIdeal.S2x768x768 .f32)
    ∧ (V (Proc.devRef .tc Cert.ReferenceIdeal.main_arg8) : FVec Ideal Cert.ReferenceIdeal.S2x768 .f32) = (W (Proc.devRef .tc Cert.KernelIdeal.main_arg8) : FVec Ideal Cert.ReferenceIdeal.S2x768 .f32)
    ∧ (V (Proc.devRef .tc Cert.ReferenceIdeal.main_arg9) : FVec Ideal Cert.ReferenceIdeal.S2x768x2048 .f32) = (W (Proc.devRef .tc Cert.KernelIdeal.main_arg9) : FVec Ideal Cert.ReferenceIdeal.S2x768x2048 .f32)
    ∧ (V (Proc.devRef .tc Cert.ReferenceIdeal.main_arg10) : FVec Ideal Cert.ReferenceIdeal.S2x2048x768 .f32) = (W (Proc.devRef .tc Cert.KernelIdeal.main_arg10) : FVec Ideal Cert.ReferenceIdeal.S2x2048x768 .f32)
    ∧ (V (Proc.devRef .tc Cert.ReferenceIdeal.main_arg11) : FVec Ideal Cert.ReferenceIdeal.S2x768x2048 .f32) = (W (Proc.devRef .tc Cert.KernelIdeal.main_arg11) : FVec Ideal Cert.ReferenceIdeal.S2x768x2048 .f32)
    ∧ (V (Proc.devRef .tc Cert.ReferenceIdeal.main_arg12) : FVec Ideal Cert.ReferenceIdeal.S768 .f32) = (W (Proc.devRef .tc Cert.KernelIdeal.main_arg12) : FVec Ideal Cert.ReferenceIdeal.S768 .f32)

section

variable {V : Valuation Cert.ReferenceIdeal.τ Cert.ReferenceIdeal.sig (Elt Ideal)} {W : Valuation Cert.KernelIdeal.τ Cert.KernelIdeal.sig (Elt Ideal)} (h : Same V W)
include h

theorem are0 {P : Params} (w : Weights W 0 P) (hc : ∀ l d, (W (Proc.devRef .tc Cert.KernelIdeal.main_arg1) : FVec Ideal Cert.ReferenceIdeal.S2048x64 .f32) (ix2 l d) = (P.cos l d : EReal))
    (hs : ∀ l d, (W (Proc.devRef .tc Cert.KernelIdeal.main_arg2) : FVec Ideal Cert.ReferenceIdeal.S2048x64 .f32) (ix2 l d) = (P.sin l d : EReal)) : (layer0 V).Are P := by
  obtain ⟨_, h1, h2, h3, h4, h5, h6, h7, h8, h9, h10, h11, _⟩ := h
  exact {
    C := fun l d => (congrFun h1 _).trans (hc l d)
    S := fun l d => (congrFun h2 _).trans (hs l d)
    an := fun d => (vec0 d).trans ((congrFun h3 _).trans (w.an d))
    wq := fun k d => (mat0 k d).trans ((congrFun h4 _).trans (w.wq k d))
    wk := fun k d => (mat0 k d).trans ((congrFun h5 _).trans (w.wk k d))
    wv := fun k d => (mat0 k d).trans ((congrFun h6 _).trans (w.wv k d))
    wo := fun k d => (mat0 k d).trans ((congrFun h7 _).trans (w.wo k d))
    fn := fun d => (vec0 d).trans ((congrFun h8 _).trans (w.fn d))
    w1 := fun k d => (up0 k d).trans ((congrFun h9 _).trans (w.w1 k d))
    w2 := fun k d => (down0 k d).trans ((congrFun h10 _).trans (w.w2 k d))
    w3 := fun k d => (up0 k d).trans ((congrFun h11 _).trans (w.w3 k d)) }

theorem are1 {P : Params} (w : Weights W 1 P) (hc : ∀ l d, (W (Proc.devRef .tc Cert.KernelIdeal.main_arg1) : FVec Ideal Cert.ReferenceIdeal.S2048x64 .f32) (ix2 l d) = (P.cos l d : EReal))
    (hs : ∀ l d, (W (Proc.devRef .tc Cert.KernelIdeal.main_arg2) : FVec Ideal Cert.ReferenceIdeal.S2048x64 .f32) (ix2 l d) = (P.sin l d : EReal)) : (layer1 V).Are P := by
  obtain ⟨_, h1, h2, h3, h4, h5, h6, h7, h8, h9, h10, h11, _⟩ := h
  exact {
    C := fun l d => (congrFun h1 _).trans (hc l d)
    S := fun l d => (congrFun h2 _).trans (hs l d)
    an := fun d => (vec1 d).trans ((congrFun h3 _).trans (w.an d))
    wq := fun k d => (mat1 k d).trans ((congrFun h4 _).trans (w.wq k d))
    wk := fun k d => (mat1 k d).trans ((congrFun h5 _).trans (w.wk k d))
    wv := fun k d => (mat1 k d).trans ((congrFun h6 _).trans (w.wv k d))
    wo := fun k d => (mat1 k d).trans ((congrFun h7 _).trans (w.wo k d))
    fn := fun d => (vec1 d).trans ((congrFun h8 _).trans (w.fn d))
    w1 := fun k d => (up1 k d).trans ((congrFun h9 _).trans (w.w1 k d))
    w2 := fun k d => (down1 k d).trans ((congrFun h10 _).trans (w.w2 k d))
    w3 := fun k d => (up1 k d).trans ((congrFun h11 _).trans (w.w3 k d)) }

end

variable {m : (ℓ : Loc Cert.KernelIdeal.nD Cert.KernelIdeal.τ Cert.KernelIdeal.sig) → Buf (Elt Ideal) ℓ} {c : Dev Cert.KernelIdeal.nD}
  {V : Valuation Cert.ReferenceIdeal.τ Cert.ReferenceIdeal.sig (Elt Ideal)} (h : Same V (W0 m c))

section

variable {x : Act} {P₀ P₁ : Params} (l : Launch m c x P₀ P₁)
include h l

theorem out_at (b : Fin 4) (i : Fin 2048) (j : Fin 768) :
    weighed (res_main_v203 V) (V (Proc.devRef .tc Cert.ReferenceIdeal.main_arg12)) (ix3 b i j)
      = (unit (layer P₁ (layer P₀ x) b i) j : EReal) * (m ((c : Thread Cert.KernelIdeal.nD Cert.KernelIdeal.τ).loc Cert.KernelIdeal.main_arg12) : FVec Ideal Cert.ReferenceIdeal.S768 .f32) (ix1 j) :=
  (out_read (are0 h l.w₀ l.c₀ l.s₀)
    (are1 h l.w₁ (fun i d => (l.c₀ i d).trans (by rw [l.c₁])) (fun i d => (l.s₀ i d).trans (by rw [l.s₁])))
    (fun b i j => (congrFun h.1 _).trans (congrFun l.x (ix3 b i j))) b i j).trans (congrArg (_ * ·) (congrFun h.2.2.2.2.2.2.2.2.2.2.2.2 _))

/-- The activations. -/
theorem out_eq : weighed (res_main_v203 V) (V (Proc.devRef .tc Cert.ReferenceIdeal.main_arg12)) = W21 m c (Proc.devRef .tc Cert.KernelIdeal.main_v107) := by
  funext r
  rw [eq_ix3 r]
  exact (out_at h l _ _ _).trans (out21 m c l _ _ _).symm

/-- The rows at the chunk starts. -/
theorem picked_eq :
    Host.dotGeneral Cert.ReferenceIdeal.dot_S4x128x2048_S4x2048x768_S4x128x768_2_1_1_2_0_0 none
      (selector (wrapped (res_main_v223 V) (broadcastInDim Cert.ReferenceIdeal.S128 ![] Cert.ReferenceIdeal.Facts₀.bcast_S_S128 (constantI Cert.ReferenceIdeal.S_ 32 128#32)))
        (wrapped (res_main_v221 V) (broadcastInDim Cert.ReferenceIdeal.S128 ![] Cert.ReferenceIdeal.Facts₀.bcast_S_S128 (constantI Cert.ReferenceIdeal.S_ 32 2048#32))))
      (weighed (res_main_v203 V) (V (Proc.devRef .tc Cert.ReferenceIdeal.main_arg12)))
      = W21 m c (Proc.devRef .tc Cert.KernelIdeal.main_v108) := by
  funext r
  rw [eq_ix3 r]
  exact (picked_read V _ _ _ _).trans ((out_at h l _ _ _).trans (picked21 m c l _ _ _).symm)

end

/-- The chunk starts. -/
theorem start_eq (V : Valuation Cert.ReferenceIdeal.τ Cert.ReferenceIdeal.sig (Elt Ideal)) :
    (broadcastInDim Cert.ReferenceIdeal.S4x128 ![0, 1] Cert.ReferenceIdeal.Facts₀.bcast_S1x128_S4x128_0_1 (broadcastInDim Cert.ReferenceIdeal.S1x128 ![1] Cert.ReferenceIdeal.Facts₀.bcast_S128_S1x128_1 (res_main_v221 V)))
      = W21 m c (Proc.devRef .tc Cert.KernelIdeal.main_v115) := by
  funext r
  rw [eq_ix2 r]
  exact (start_read V _ _).trans (start21 m c _ _).symm

/-- The counts. -/
theorem count_eq : broadcastInDim Cert.ReferenceIdeal.S4 ![] Cert.ReferenceIdeal.Facts₀.bcast_S_S4 (constantI Cert.ReferenceIdeal.S_ 32 128#32) = W21 m c (Proc.devRef .tc Cert.KernelIdeal.main_v116) :=
  Eq.trans (by rfl) (count21 m c).symm

end Cert.Agree

end
-- ==== Proof.lean ====
/-
  The claims about the two-layer transformer kernel, assembled: its frames at the machine's words and at the extended
  reals, the reference's frame, that the ideal program is the printed one with its mask read as −∞, and that at finite
  arguments its results are the reference's.
-/
module

public import proofs.«01_k».proof.Defs
public import proofs.«01_k».proof.Proof.Run
public import proofs.«01_k».proof.Proof.RunPrinted
public import proofs.«01_k».proof.Proof.Finite
public import proofs.«01_k».proof.Proof.Agree
public import Idealize.ShloMosaic.Lib.Quiescent

@[expose] public section

set_option maxRecDepth 16384

noncomputable section

open Idealize.ShloMosaic Idealize.ShloMosaic.TcCoe

namespace Cert.Proof

theorem frame_kernel : Cert.quiescent_Kernel (hKernel := Cert.Kernel.Gen.facts) :=
  fun m ρ _ => Cert.Kernel.Run.frame m ρ

theorem frame_ideal : Cert.quiescent_KernelIdeal (hKernelIdeal := Cert.KernelIdeal.Gen.facts) :=
  fun m ρ _ => Cert.KernelIdeal.Run.frame m ρ

theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2.2, sem_eq_zero_of_no_sems (by decide) r.2⟩) (Cert.ReferenceIdeal.Value.run (F := Ideal) m ρ)

/-- The mask's literal is named −∞. -/
theorem preserves : Cert.preserves_Kernel_KernelIdeal :=
  IdealRules.named_const.statement Cert.KernelIdeal.κ "mask" .f32 0xCE6E6B28#32 ⊥ rfl

theorem frame_ideal_finite :
    Cert.quiescent_KernelIdeal_pre_finite (hKernelIdeal := Cert.KernelIdeal.Gen.facts) (hPre_finite := Cert.Pre_finite.facts) :=
  fun m ρ _ => frame_ideal m ρ trivial

theorem frame_reference_finite :
    Cert.quiescent_ReferenceIdeal_pre_finite (hReferenceIdeal := Cert.ReferenceIdeal.Gen.facts) (hPre_finite := Cert.Pre_finite.facts) :=
  fun m ρ _ => frame_reference m ρ trivial

/-- **At finite arguments the kernel's results are the reference's.** -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.KernelIdeal.Run.W21 m c (Proc.devRef .tc Cert.KernelIdeal.main_v107),
    fun c => Cert.KernelIdeal.Run.W21 m c (Proc.devRef .tc Cert.KernelIdeal.main_v108),
    fun c => Cert.KernelIdeal.Run.W21 m c (Proc.devRef .tc Cert.KernelIdeal.main_v115),
    fun c => Cert.KernelIdeal.Run.W21 m c (Proc.devRef .tc Cert.KernelIdeal.main_v116),
    fun c => Cert.KernelIdeal.Run.W21 m c (Proc.devRef .tc Cert.KernelIdeal.main_cst), ?_, ?_⟩
  · refine (θ_run Cert.KernelIdeal.defs _ _).mono (fun r h c => ?_) (Cert.KernelIdeal.Run.run m g)
    exact ⟨h.1 c _ (Cert.KernelIdeal.Run.uc_mem _ (by decide)), h.1 c _ (Cert.KernelIdeal.Run.uc_mem _ (by decide)),
      h.1 c _ (Cert.KernelIdeal.Run.uc_mem _ (by decide)), h.1 c _ (Cert.KernelIdeal.Run.uc_mem _ (by decide)),
      h.1 c _ (Cert.KernelIdeal.Run.uc_mem _ (by decide)),
      Cert.KernelIdeal.Run.final_arg m h.1 c Cert.KernelIdeal.main_arg0 (by decide) (by decide),
      Cert.KernelIdeal.Run.final_arg m h.1 c Cert.KernelIdeal.main_arg1 (by decide) (by decide),
      Cert.KernelIdeal.Run.final_arg m h.1 c Cert.KernelIdeal.main_arg2 (by decide) (by decide),
      Cert.KernelIdeal.Run.final_arg m h.1 c Cert.KernelIdeal.main_arg3 (by decide) (by decide),
      Cert.KernelIdeal.Run.final_arg m h.1 c Cert.KernelIdeal.main_arg4 (by decide) (by decide),
      Cert.KernelIdeal.Run.final_arg m h.1 c Cert.KernelIdeal.main_arg5 (by decide) (by decide),
      Cert.KernelIdeal.Run.final_arg m h.1 c Cert.KernelIdeal.main_arg6 (by decide) (by decide),
      Cert.KernelIdeal.Run.final_arg m h.1 c Cert.KernelIdeal.main_arg7 (by decide) (by decide),
      Cert.KernelIdeal.Run.final_arg m h.1 c Cert.KernelIdeal.main_arg8 (by decide) (by decide),
      Cert.KernelIdeal.Run.final_arg m h.1 c Cert.KernelIdeal.main_arg9 (by decide) (by decide),
      Cert.KernelIdeal.Run.final_arg m h.1 c Cert.KernelIdeal.main_arg10 (by decide) (by decide),
      Cert.KernelIdeal.Run.final_arg m h.1 c Cert.KernelIdeal.main_arg11 (by decide) (by decide),
      Cert.KernelIdeal.Run.final_arg m h.1 c Cert.KernelIdeal.main_arg12 (by decide) (by decide)⟩
  · refine (θ_run Cert.ReferenceIdeal.defs _ _).mono (fun r h c => ?_) (Cert.ReferenceIdeal.Value.run (F := Ideal) m' g')
    obtain ⟨h0, h1, h2, h3, h4, hf⟩ := h c
    obtain ⟨x, P₀, P₁, l⟩ := Cert.KernelIdeal.Regions.launch m c (congrFun (hpre c) (fun k => k.elim0))
    have hs : Cert.Agree.Same (StableHlo.launchContents m' c) (Cert.KernelIdeal.Run.W0 m c) := hargs c
    exact ⟨h0.trans (Cert.Agree.out_eq hs l), h1.trans (Cert.Agree.picked_eq hs l), h2.trans (Cert.Agree.start_eq _),
      h3.trans Cert.Agree.count_eq, h4.trans (Cert.KernelIdeal.Regions.mean21 m c).symm, hf⟩

theorem claim : Cert.Claim :=
  ⟨Cert.Kernel.Gen.facts, Cert.KernelIdeal.Gen.facts, Cert.ReferenceIdeal.Gen.facts, Cert.Pre_finite.facts,
    frame_kernel, frame_ideal, frame_ideal_finite, frame_reference, frame_reference_finite, preserves, algebraic⟩

end Cert.Proof

end
